-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_infinity [hPre_below_infinity : Cert.Pre_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_below_infinity.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_infinity [hPre_below_infinity : Cert.Pre_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_infinity.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_below_infinity [hKernelIdeal : Cert.KernelIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_below_infinity [hReferenceIdeal : Cert.ReferenceIdeal.Facts] [hPre_below_infinity : Cert.Pre_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_below_infinity [hKernelIdeal : Cert.KernelIdeal.Facts] [hReferenceIdeal : Cert.ReferenceIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_below_infinity : Cert.Pre_below_infinity.Facts),
    quiescent_Kernel (hKernel := hKernel)
    ∧ quiescent_KernelIdeal (hKernelIdeal := hKernelIdeal)
    ∧ quiescent_KernelIdeal_pre_below_infinity (hKernelIdeal := hKernelIdeal) (hPre_below_infinity := hPre_below_infinity)
    ∧ quiescent_ReferenceIdeal (hReferenceIdeal := hReferenceIdeal)
    ∧ quiescent_ReferenceIdeal_pre_below_infinity (hReferenceIdeal := hReferenceIdeal) (hPre_below_infinity := hPre_below_infinity)
    ∧ preserves_Kernel_KernelIdeal
    ∧ algebraic_KernelIdeal_ReferenceIdeal_pre_below_infinity (hKernelIdeal := hKernelIdeal) (hReferenceIdeal := hReferenceIdeal) (hPre_below_infinity := hPre_below_infinity)
-- ==== Pre_below_infinity.lean ====
abbrev S64x1000000 : Shape := ⟨2, ![64, 1000000]⟩
abbrev S_ : Shape := ⟨0, ![]⟩

class Facts : Prop where
  bcast_S_S64x1000000 : S_.BroadcastsInDim S64x1000000 (![] : Fin 0 → Fin S64x1000000.rank)

variable [Facts]

def fn {F : FTy → Type} [FloatOps F] (main_arg0 : FVec F S64x1000000 .f32) : IVec S64x1000000 1 :=
  let main_cst : FVec F S_ .f32 := constant S_ .f32 0x7F800000#32
  let main_v0 : FVec F S64x1000000 .f32 := broadcastInDim S64x1000000 ![] bcast_S_S64x1000000 main_cst
  let main_v1 : IVec S64x1000000 1 := cmpf .olt main_arg0 main_v0
  main_v1
-- ==== Kernel.lean ====
abbrev S64x1000000 : Shape := ⟨2, ![64, 1000000]⟩
abbrev S64x1 : Shape := ⟨2, ![64, 1]⟩
abbrev S64x24576 : Shape := ⟨2, ![64, 24576]⟩
abbrev S64x1024 : Shape := ⟨2, ![64, 1024]⟩
abbrev S64 : Shape := ⟨1, ![64]⟩

abbrev nBuf : Space → Nat
  | .hbm => 7
  | .vmem => 8
  | .smem => 0
  | _ => 0

abbrev bufTy : (tb : Table) → Fin (tcTables nBuf tb) → BufTy
  | .hbm, ⟨0, _⟩ => ⟨S64x1000000, .f32⟩
  | .hbm, ⟨1, _⟩ => ⟨S64x1, .i32⟩
  | .hbm, ⟨2, _⟩ => ⟨S64x1, .f32⟩
  | .hbm, ⟨3, _⟩ => ⟨S64x1, .i32⟩
  | .hbm, ⟨4, _⟩ => ⟨S64x1, .f32⟩
  | .hbm, ⟨5, _⟩ => ⟨S64x1, .i1⟩
  | .hbm, ⟨6, _⟩ => ⟨S64x1, .i32⟩
  | .local _ .vmem, ⟨0, _⟩ => ⟨S64x24576, .f32⟩
  | .local _ .vmem, ⟨1, _⟩ => ⟨S64x24576, .f32⟩
  | .local _ .vmem, ⟨2, _⟩ => ⟨S64x1, .i32⟩
  | .local _ .vmem, ⟨3, _⟩ => ⟨S64x1, .f32⟩
  | .local _ .vmem, ⟨4, _⟩ => ⟨S64x1024, .f32⟩
  | .local _ .vmem, ⟨5, _⟩ => ⟨S64x1024, .f32⟩
  | .local _ .vmem, ⟨6, _⟩ => ⟨S64x1, .i32⟩
  | .local _ .vmem, ⟨7, _⟩ => ⟨S64x1, .f32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_call0_v0_0 : Ref sig .tc := ⟨.hbm, 1, rfl⟩
abbrev main_call0_v0_1 : Ref sig .tc := ⟨.hbm, 2, rfl⟩
abbrev main_call0_v1_0 : Ref sig .tc := ⟨.hbm, 3, rfl⟩
abbrev main_call0_v1_1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7

abbrev nD : Nat := 1
abbrev τ : Topo := Topo.v7x

variable {F : FTy → Type} [FloatOps F]

abbrev grid0 : Pipeline.Grid := ⟨1, ![40], ![false]⟩

def k0_cond1 (i : grid0.Coords) : BitVec 1 :=
  let arg0 : BitVec 32 := BitVec.ofNat 32 (i 0).val
  let c0_i32_1465 : BitVec 32 := 0#32
  let v4798 : BitVec 1 := Scalar.cmpi .eq arg0 c0_i32_1465
  let v4799 : BitVec 32 := Scalar.extui v4798
  let c0_i32_1466 : BitVec 32 := 0#32
  let v4800 : BitVec 1 := Scalar.cmpi .ne v4799 c0_i32_1466
  v4800

def k0_cond2 (i : grid0.Coords) : BitVec 1 :=
  let arg0 : BitVec 32 := BitVec.ofNat 32 (i 0).val
  let c0_i32_1467 : BitVec 32 := 0#32
  let v4801 : BitVec 1 := Scalar.cmpi .ne arg0 c0_i32_1467
  let v4802 : BitVec 32 := Scalar.extui v4801
  let c0_i32_1468 : BitVec 32 := 0#32
  let v4803 : BitVec 1 := Scalar.cmpi .ne v4802 c0_i32_1468
  v4803

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x24576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![17], ![false]⟩

def k1_cond1 (i : grid1.Coords) : BitVec 1 :=
  let arg0 : BitVec 32 := BitVec.ofNat 32 (i 0).val
  let c0_i32_41 : BitVec 32 := 0#32
  let v205 : BitVec 1 := Scalar.cmpi .eq arg0 c0_i32_41
  let v206 : BitVec 32 := Scalar.extui v205
  let c0_i32_42 : BitVec 32 := 0#32
  let v207 : BitVec 1 := Scalar.cmpi .ne v206 c0_i32_42
  v207

def k1_cond2 (i : grid1.Coords) : BitVec 1 :=
  let arg0 : BitVec 32 := BitVec.ofNat 32 (i 0).val
  let c0_i32_43 : BitVec 32 := 0#32
  let v208 : BitVec 1 := Scalar.cmpi .ne arg0 c0_i32_43
  let v209 : BitVec 32 := Scalar.extui v208
  let c0_i32_44 : BitVec 32 := 0#32
  let v210 : BitVec 1 := Scalar.cmpi .ne v209 c0_i32_44
  v210

def cc1_transform_0 (i : grid1.Coords) : Fin 2 → Nat :=
  let arg0 : BitVec 32 := BitVec.ofNat 32 (i 0).val
  let c960_i32 : BitVec 32 := 960#32
  let v0 : BitVec 32 := Scalar.addi c960_i32 arg0
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== ReferenceIdeal.lean ====
abbrev S64x1000000 : Shape := ⟨2, ![64, 1000000]⟩
abbrev S_ : Shape := ⟨0, ![]⟩
abbrev S64 : Shape := ⟨1, ![64]⟩
abbrev S64x1 : Shape := ⟨2, ![64, 1]⟩
abbrev S1 : Shape := ⟨1, ![1]⟩
abbrev S2 : Shape := ⟨1, ![2]⟩
abbrev S1x1 : Shape := ⟨2, ![1, 1]⟩

abbrev nBuf : Space → Nat
  | .hbm => 304
  | .vmem => 0
  | .smem => 0
  | _ => 0

abbrev hbmTy0_0 (i : Nat) : BufTy := match i % 128 with
  | 0 => ⟨S64x1000000, .f32⟩
  | 1 => ⟨S_, .f32⟩
  | 2 => ⟨S64x1000000, .f32⟩
  | 3 => ⟨S64x1000000, .f32⟩
  | 4 => ⟨S_, .f32⟩
  | 5 => ⟨S64, .f32⟩
  | 6 => ⟨S_, .f32⟩
  | 7 => ⟨S64, .f32⟩
  | 8 => ⟨S64, .f32⟩
  | 9 => ⟨S64x1, .f32⟩
  | 10 => ⟨S64x1000000, .f32⟩
  | 11 => ⟨S64x1000000, .f32⟩
  | 12 => ⟨S64x1000000, .f32⟩
  | 13 => ⟨S_, .f32⟩
  | 14 => ⟨S64, .f32⟩
  | 15 => ⟨S64x1, .f32⟩
  | 16 => ⟨S64x1000000, .f32⟩
  | 17 => ⟨S64x1000000, .f32⟩
  | 18 => ⟨S_, .i32⟩
  | 19 => ⟨S_, .i32⟩
  | 20 => ⟨S_, .i32⟩
  | 21 => ⟨S_, .i32⟩
  | 22 => ⟨S1, .i32⟩
  | 23 => ⟨S_, .i32⟩
  | 24 => ⟨S_, .i32⟩
  | 25 => ⟨S_, .i32⟩
  | 26 => ⟨S1, .i32⟩
  | 27 => ⟨S2, .i32⟩
  | 28 => ⟨S_, .f32⟩
  | 29 => ⟨S_, .f32⟩
  | 30 => ⟨S_, .f32⟩
  | 31 => ⟨S_, .f32⟩
  | 32 => ⟨S1x1, .f32⟩
  | 33 => ⟨S1x1, .f32⟩
  | 34 => ⟨S1, .i32⟩
  | 35 => ⟨S_, .i32⟩
  | 36 => ⟨S1, .i32⟩
  | 37 => ⟨S_, .i32⟩
  | 38 => ⟨S64x1000000, .i64⟩
  | 39 => ⟨S64x1000000, .i64⟩
  | 40 => ⟨S_, .i64⟩
  | 41 => ⟨S64x1000000, .i64⟩
  | 42 => ⟨S64x1000000, .i64⟩
  | 43 => ⟨S_, .i64⟩
  | 44 => ⟨S64x1000000, .i64⟩
  | 45 => ⟨S64x1000000, .i64⟩
  | 46 => ⟨S64x1000000, .i64⟩
  | 47 => ⟨S_, .i64⟩
  | 48 => ⟨S64x1000000, .i64⟩
  | 49 => ⟨S64x1000000, .i64⟩
  | 50 => ⟨S64x1000000, .i32⟩
  | 51 => ⟨S64x1000000, .i32⟩
  | 52 => ⟨S_, .i32⟩
  | 53 => ⟨S_, .i32⟩
  | 54 => ⟨S_, .i32⟩
  | 55 => ⟨S64x1000000, .i32⟩
  | 56 => ⟨S64x1000000, .i32⟩
  | 57 => ⟨S64x1000000, .i32⟩
  | 58 => ⟨S64x1000000, .i32⟩
  | 59 => ⟨S64x1000000, .i32⟩
  | 60 => ⟨S_, .i32⟩
  | 61 => ⟨S64x1000000, .i32⟩
  | 62 => ⟨S64x1000000, .i32⟩
  | 63 => ⟨S_, .i32⟩
  | 64 => ⟨S64x1000000, .i32⟩
  | 65 => ⟨S64x1000000, .i32⟩
  | 66 => ⟨S64x1000000, .i32⟩
  | 67 => ⟨S64x1000000, .i32⟩
  | 68 => ⟨S64x1000000, .i32⟩
  | 69 => ⟨S_, .i32⟩
  | 70 => ⟨S64x1000000, .i32⟩
  | 71 => ⟨S64x1000000, .i32⟩
  | 72 => ⟨S_, .i32⟩
  | 73 => ⟨S64x1000000, .i32⟩
  | 74 => ⟨S64x1000000, .i32⟩
  | 75 => ⟨S64x1000000, .i32⟩
  | 76 => ⟨S64x1000000, .i32⟩
  | 77 => ⟨S64x1000000, .i32⟩
  | 78 => ⟨S_, .i32⟩
  | 79 => ⟨S64x1000000, .i32⟩
  | 80 => ⟨S64x1000000, .i32⟩
  | 81 => ⟨S_, .i32⟩
  | 82 => ⟨S64x1000000, .i32⟩
  | 83 => ⟨S64x1000000, .i32⟩
  | 84 => ⟨S64x1000000, .i32⟩
  | 85 => ⟨S64x1000000, .i32⟩
  | 86 => ⟨S64x1000000, .i32⟩
  | 87 => ⟨S_, .i32⟩
  | 88 => ⟨S64x1000000, .i32⟩
  | 89 => ⟨S64x1000000, .i32⟩
  | 90 => ⟨S_, .i32⟩
  | 91 => ⟨S64x1000000, .i32⟩
  | 92 => ⟨S64x1000000, .i32⟩
  | 93 => ⟨S64x1000000, .i32⟩
  | 94 => ⟨S64x1000000, .i32⟩
  | 95 => ⟨S64x1000000, .i32⟩
  | 96 => ⟨S64x1000000, .i32⟩
  | 97 => ⟨S64x1000000, .i32⟩
  | 98 => ⟨S64x1000000, .i32⟩
  | 99 => ⟨S_, .i32⟩
  | 100 => ⟨S64x1000000, .i32⟩
  | 101 => ⟨S64x1000000, .i32⟩
  | 102 => ⟨S64x1000000, .i32⟩
  | 103 => ⟨S_, .i32⟩
  | 104 => ⟨S64x1000000, .i32⟩
  | 105 => ⟨S64x1000000, .i32⟩
  | 106 => ⟨S_, .i32⟩
  | 107 => ⟨S64x1000000, .i32⟩
  | 108 => ⟨S64x1000000, .i32⟩
  | 109 => ⟨S64x1000000, .i32⟩
  | 110 => ⟨S64x1000000, .i32⟩
  | 111 => ⟨S64x1000000, .i32⟩
  | 112 => ⟨S_, .i32⟩
  | 113 => ⟨S64x1000000, .i32⟩
  | 114 => ⟨S64x1000000, .i32⟩
  | 115 => ⟨S_, .i32⟩
  | 116 => ⟨S64x1000000, .i32⟩
  | 117 => ⟨S64x1000000, .i32⟩
  | 118 => ⟨S64x1000000, .i32⟩
  | 119 => ⟨S64x1000000, .i32⟩
  | 120 => ⟨S64x1000000, .i32⟩
  | 121 => ⟨S_, .i32⟩
  | 122 => ⟨S64x1000000, .i32⟩
  | 123 => ⟨S64x1000000, .i32⟩
  | 124 => ⟨S_, .i32⟩
  | 125 => ⟨S64x1000000, .i32⟩
  | 126 => ⟨S64x1000000, .i32⟩
  | 127 => ⟨S64x1000000, .i32⟩
  | _ => ⟨S64x1000000, .f32⟩

abbrev hbmTy0_1 (i : Nat) : BufTy := match i % 128 with
  | 0 => ⟨S64x1000000, .i32⟩
  | 1 => ⟨S64x1000000, .i32⟩
  | 2 => ⟨S_, .i32⟩
  | 3 => ⟨S64x1000000, .i32⟩
  | 4 => ⟨S64x1000000, .i32⟩
  | 5 => ⟨S_, .i32⟩
  | 6 => ⟨S64x1000000, .i32⟩
  | 7 => ⟨S64x1000000, .i32⟩
  | 8 => ⟨S64x1000000, .i32⟩
  | 9 => ⟨S64x1000000, .i32⟩
  | 10 => ⟨S64x1000000, .i32⟩
  | 11 => ⟨S64x1000000, .i32⟩
  | 12 => ⟨S64x1000000, .i32⟩
  | 13 => ⟨S64x1000000, .i32⟩
  | 14 => ⟨S_, .i32⟩
  | 15 => ⟨S64x1000000, .i32⟩
  | 16 => ⟨S64x1000000, .i32⟩
  | 17 => ⟨S64x1000000, .i32⟩
  | 18 => ⟨S_, .i32⟩
  | 19 => ⟨S64x1000000, .i32⟩
  | 20 => ⟨S64x1000000, .i32⟩
  | 21 => ⟨S_, .i32⟩
  | 22 => ⟨S64x1000000, .i32⟩
  | 23 => ⟨S64x1000000, .i32⟩
  | 24 => ⟨S64x1000000, .i32⟩
  | 25 => ⟨S64x1000000, .i32⟩
  | 26 => ⟨S64x1000000, .i32⟩
  | 27 => ⟨S_, .i32⟩
  | 28 => ⟨S64x1000000, .i32⟩
  | 29 => ⟨S64x1000000, .i32⟩
  | 30 => ⟨S_, .i32⟩
  | 31 => ⟨S64x1000000, .i32⟩
  | 32 => ⟨S64x1000000, .i32⟩
  | 33 => ⟨S64x1000000, .i32⟩
  | 34 => ⟨S64x1000000, .i32⟩
  | 35 => ⟨S64x1000000, .i32⟩
  | 36 => ⟨S_, .i32⟩
  | 37 => ⟨S64x1000000, .i32⟩
  | 38 => ⟨S64x1000000, .i32⟩
  | 39 => ⟨S_, .i32⟩
  | 40 => ⟨S64x1000000, .i32⟩
  | 41 => ⟨S64x1000000, .i32⟩
  | 42 => ⟨S64x1000000, .i32⟩
  | 43 => ⟨S64x1000000, .i32⟩
  | 44 => ⟨S64x1000000, .i32⟩
  | 45 => ⟨S_, .i32⟩
  | 46 => ⟨S64x1000000, .i32⟩
  | 47 => ⟨S64x1000000, .i32⟩
  | 48 => ⟨S_, .i32⟩
  | 49 => ⟨S64x1000000, .i32⟩
  | 50 => ⟨S64x1000000, .i32⟩
  | 51 => ⟨S64x1000000, .i32⟩
  | 52 => ⟨S64x1000000, .i32⟩
  | 53 => ⟨S64x1000000, .i32⟩
  | 54 => ⟨S64x1000000, .i32⟩
  | 55 => ⟨S64x1000000, .i32⟩
  | 56 => ⟨S64x1000000, .i32⟩
  | 57 => ⟨S_, .i32⟩
  | 58 => ⟨S64x1000000, .i32⟩
  | 59 => ⟨S64x1000000, .i32⟩
  | 60 => ⟨S64x1000000, .i32⟩
  | 61 => ⟨S_, .i32⟩
  | 62 => ⟨S64x1000000, .i32⟩
  | 63 => ⟨S64x1000000, .i32⟩
  | 64 => ⟨S_, .i32⟩
  | 65 => ⟨S64x1000000, .i32⟩
  | 66 => ⟨S64x1000000, .i32⟩
  | 67 => ⟨S64x1000000, .i32⟩
  | 68 => ⟨S64x1000000, .i32⟩
  | 69 => ⟨S64x1000000, .i32⟩
  | 70 => ⟨S_, .i32⟩
  | 71 => ⟨S64x1000000, .i32⟩
  | 72 => ⟨S64x1000000, .i32⟩
  | 73 => ⟨S_, .i32⟩
  | 74 => ⟨S64x1000000, .i32⟩
  | 75 => ⟨S64x1000000, .i32⟩
  | 76 => ⟨S64x1000000, .i32⟩
  | 77 => ⟨S64x1000000, .i32⟩
  | 78 => ⟨S64x1000000, .i32⟩
  | 79 => ⟨S_, .i32⟩
  | 80 => ⟨S64x1000000, .i32⟩
  | 81 => ⟨S64x1000000, .i32⟩
  | 82 => ⟨S_, .i32⟩
  | 83 => ⟨S64x1000000, .i32⟩
  | 84 => ⟨S64x1000000, .i32⟩
  | 85 => ⟨S64x1000000, .i32⟩
  | 86 => ⟨S64x1000000, .i32⟩
  | 87 => ⟨S64x1000000, .i32⟩
  | 88 => ⟨S_, .i32⟩
  | 89 => ⟨S64x1000000, .i32⟩
  | 90 => ⟨S64x1000000, .i32⟩
  | 91 => ⟨S_, .i32⟩
  | 92 => ⟨S64x1000000, .i32⟩
  | 93 => ⟨S64x1000000, .i32⟩
  | 94 => ⟨S64x1000000, .i32⟩
  | 95 => ⟨S64x1000000, .i32⟩
  | 96 => ⟨S64x1000000, .i32⟩
  | 97 => ⟨S64x1000000, .i32⟩
  | 98 => ⟨S64x1000000, .i32⟩
  | 99 => ⟨S64x1000000, .i32⟩
  | 100 => ⟨S_, .i32⟩
  | 101 => ⟨S64x1000000, .i32⟩
  | 102 => ⟨S64x1000000, .i32⟩
  | 103 => ⟨S64x1000000, .i32⟩
  | 104 => ⟨S_, .i32⟩
  | 105 => ⟨S64x1000000, .i32⟩
  | 106 => ⟨S64x1000000, .i32⟩
  | 107 => ⟨S_, .i32⟩
  | 108 => ⟨S64x1000000, .i32⟩
  | 109 => ⟨S64x1000000, .i32⟩
  | 110 => ⟨S64x1000000, .i32⟩
  | 111 => ⟨S64x1000000, .i32⟩
  | 112 => ⟨S64x1000000, .i32⟩
  | 113 => ⟨S_, .i32⟩
  | 114 => ⟨S64x1000000, .i32⟩
  | 115 => ⟨S64x1000000, .i32⟩
  | 116 => ⟨S_, .i32⟩
  | 117 => ⟨S64x1000000, .i32⟩
  | 118 => ⟨S64x1000000, .i32⟩
  | 119 => ⟨S64x1000000, .i32⟩
  | 120 => ⟨S64x1000000, .i32⟩
  | 121 => ⟨S64x1000000, .i32⟩
  | 122 => ⟨S_, .i32⟩
  | 123 => ⟨S64x1000000, .i32⟩
  | 124 => ⟨S64x1000000, .i32⟩
  | 125 => ⟨S_, .i32⟩
  | 126 => ⟨S64x1000000, .i32⟩
  | 127 => ⟨S64x1000000, .i32⟩
  | _ => ⟨S64x1000000, .f32⟩

abbrev hbmTy0_2 (i : Nat) : BufTy := match i % 128 with
  | 0 => ⟨S64x1000000, .i32⟩
  | 1 => ⟨S64x1000000, .i32⟩
  | 2 => ⟨S64x1000000, .i32⟩
  | 3 => ⟨S_, .i32⟩
  | 4 => ⟨S64x1000000, .i32⟩
  | 5 => ⟨S64x1000000, .i32⟩
  | 6 => ⟨S_, .i32⟩
  | 7 => ⟨S64x1000000, .i32⟩
  | 8 => ⟨S64x1000000, .i32⟩
  | 9 => ⟨S64x1000000, .i32⟩
  | 10 => ⟨S64x1000000, .i32⟩
  | 11 => ⟨S64x1000000, .i32⟩
  | 12 => ⟨S64x1000000, .i32⟩
  | 13 => ⟨S64x1000000, .i32⟩
  | 14 => ⟨S64x1000000, .i32⟩
  | 15 => ⟨S_, .i32⟩
  | 16 => ⟨S64x1000000, .i32⟩
  | 17 => ⟨S64x1000000, .i32⟩
  | 18 => ⟨S64x1000000, .i32⟩
  | 19 => ⟨S_, .i32⟩
  | 20 => ⟨S64x1000000, .i32⟩
  | 21 => ⟨S64x1000000, .i32⟩
  | 22 => ⟨S_, .i32⟩
  | 23 => ⟨S64x1000000, .i32⟩
  | 24 => ⟨S64x1000000, .i32⟩
  | 25 => ⟨S64x1000000, .f32⟩
  | 26 => ⟨S_, .f32⟩
  | 27 => ⟨S64x1000000, .f32⟩
  | 28 => ⟨S64x1000000, .f32⟩
  | 29 => ⟨S1x1, .f32⟩
  | 30 => ⟨S64x1000000, .f32⟩
  | 31 => ⟨S64x1000000, .f32⟩
  | 32 => ⟨S64x1000000, .f32⟩
  | 33 => ⟨S64x1000000, .f32⟩
  | 34 => ⟨S64x1000000, .f32⟩
  | 35 => ⟨S64x1000000, .f32⟩
  | 36 => ⟨S64x1000000, .f32⟩
  | 37 => ⟨S64x1000000, .f32⟩
  | 38 => ⟨S64x1000000, .f32⟩
  | 39 => ⟨S64x1000000, .f32⟩
  | 40 => ⟨S64x1000000, .f32⟩
  | 41 => ⟨S64x1000000, .f32⟩
  | 42 => ⟨S64x1000000, .i32⟩
  | 43 => ⟨S_, .f32⟩
  | 44 => ⟨S_, .i32⟩
  | 45 => ⟨S64, .f32⟩
  | 46 => ⟨S64, .i32⟩
  | 47 => ⟨S64x1, .i32⟩
  | _ => ⟨S64x1000000, .f32⟩

abbrev hbmTy (i : Nat) : BufTy := match i / 128 with
  | 0 => hbmTy0_0 i
  | 1 => hbmTy0_1 i
  | 2 => hbmTy0_2 i
  | _ => ⟨S64x1000000, .f32⟩

abbrev bufTy : (tb : Table) → Fin (tcTables nBuf tb) → BufTy
  | .hbm, ⟨i, _⟩ => hbmTy i
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_cst_6 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_c : Ref sig .tc := ⟨.hbm, 40, rfl⟩
abbrev main_call0_v10 : Ref sig .tc := ⟨.hbm, 41, rfl⟩
abbrev main_call0_v11 : Ref sig .tc := ⟨.hbm, 42, rfl⟩
abbrev main_call0_c_0 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_c_1 : Ref sig .tc := ⟨.hbm, 47, rfl⟩
abbrev main_call0_v15 : Ref sig .tc := ⟨.hbm, 48, rfl⟩
abbrev main_call0_v16 : Ref sig .tc := ⟨.hbm, 49, rfl⟩
abbrev main_call0_v17 : Ref sig .tc := ⟨.hbm, 50, rfl⟩
abbrev main_call0_v18 : Ref sig .tc := ⟨.hbm, 51, rfl⟩
abbrev main_call0_call0_v0 : Ref sig .tc := ⟨.hbm, 52, rfl⟩
abbrev main_call0_call0_c : Ref sig .tc := ⟨.hbm, 53, rfl⟩
abbrev main_call0_call0_v1 : Ref sig .tc := ⟨.hbm, 54, rfl⟩
abbrev main_call0_call0_v2 : Ref sig .tc := ⟨.hbm, 55, rfl⟩
abbrev main_call0_call0_v3 : Ref sig .tc := ⟨.hbm, 56, rfl⟩
abbrev main_call0_call0_v4 : Ref sig .tc := ⟨.hbm, 57, rfl⟩
abbrev main_call0_call0_v5 : Ref sig .tc := ⟨.hbm, 58, rfl⟩
abbrev main_call0_call0_v6 : Ref sig .tc := ⟨.hbm, 59, rfl⟩
abbrev main_call0_call0_c_0 : Ref sig .tc := ⟨.hbm, 60, rfl⟩
abbrev main_call0_call0_v7 : Ref sig .tc := ⟨.hbm, 61, rfl⟩
abbrev main_call0_call0_v8 : Ref sig .tc := ⟨.hbm, 62, rfl⟩
abbrev main_call0_call0_c_1 : Ref sig .tc := ⟨.hbm, 63, rfl⟩
abbrev main_call0_call0_v9 : Ref sig .tc := ⟨.hbm, 64, rfl⟩
abbrev main_call0_call0_v10 : Ref sig .tc := ⟨.hbm, 65, rfl⟩
abbrev main_call0_call0_v11 : Ref sig .tc := ⟨.hbm, 66, rfl⟩
abbrev main_call0_call0_v12 : Ref sig .tc := ⟨.hbm, 67, rfl⟩
abbrev main_call0_call0_v13 : Ref sig .tc := ⟨.hbm, 68, rfl⟩
abbrev main_call0_call0_c_2 : Ref sig .tc := ⟨.hbm, 69, rfl⟩
abbrev main_call0_call0_v14 : Ref sig .tc := ⟨.hbm, 70, rfl⟩
abbrev main_call0_call0_v15 : Ref sig .tc := ⟨.hbm, 71, rfl⟩
abbrev main_call0_call0_c_3 : Ref sig .tc := ⟨.hbm, 72, rfl⟩
abbrev main_call0_call0_v16 : Ref sig .tc := ⟨.hbm, 73, rfl⟩
abbrev main_call0_call0_v17 : Ref sig .tc := ⟨.hbm, 74, rfl⟩
abbrev main_call0_call0_v18 : Ref sig .tc := ⟨.hbm, 75, rfl⟩
abbrev main_call0_call0_v19 : Ref sig .tc := ⟨.hbm, 76, rfl⟩
abbrev main_call0_call0_v20 : Ref sig .tc := ⟨.hbm, 77, rfl⟩
abbrev main_call0_call0_c_4 : Ref sig .tc := ⟨.hbm, 78, rfl⟩
abbrev main_call0_call0_v21 : Ref sig .tc := ⟨.hbm, 79, rfl⟩
abbrev main_call0_call0_v22 : Ref sig .tc := ⟨.hbm, 80, rfl⟩
abbrev main_call0_call0_c_5 : Ref sig .tc := ⟨.hbm, 81, rfl⟩
abbrev main_call0_call0_v23 : Ref sig .tc := ⟨.hbm, 82, rfl⟩
abbrev main_call0_call0_v24 : Ref sig .tc := ⟨.hbm, 83, rfl⟩
abbrev main_call0_call0_v25 : Ref sig .tc := ⟨.hbm, 84, rfl⟩
abbrev main_call0_call0_v26 : Ref sig .tc := ⟨.hbm, 85, rfl⟩
abbrev main_call0_call0_v27 : Ref sig .tc := ⟨.hbm, 86, rfl⟩
abbrev main_call0_call0_c_6 : Ref sig .tc := ⟨.hbm, 87, rfl⟩
abbrev main_call0_call0_v28 : Ref sig .tc := ⟨.hbm, 88, rfl⟩
abbrev main_call0_call0_v29 : Ref sig .tc := ⟨.hbm, 89, rfl⟩
abbrev main_call0_call0_c_7 : Ref sig .tc := ⟨.hbm, 90, rfl⟩
abbrev main_call0_call0_v30 : Ref sig .tc := ⟨.hbm, 91, rfl⟩
abbrev main_call0_call0_v31 : Ref sig .tc := ⟨.hbm, 92, rfl⟩
abbrev main_call0_call0_v32 : Ref sig .tc := ⟨.hbm, 93, rfl⟩
abbrev main_call0_call0_v33 : Ref sig .tc := ⟨.hbm, 94, rfl⟩
abbrev main_call0_call0_v34 : Ref sig .tc := ⟨.hbm, 95, rfl⟩
abbrev main_call0_call0_v35 : Ref sig .tc := ⟨.hbm, 96, rfl⟩
abbrev main_call0_call0_v36 : Ref sig .tc := ⟨.hbm, 97, rfl⟩
abbrev main_call0_call0_v37 : Ref sig .tc := ⟨.hbm, 98, rfl⟩
abbrev main_call0_call0_c_8 : Ref sig .tc := ⟨.hbm, 99, rfl⟩
abbrev main_call0_call0_v38 : Ref sig .tc := ⟨.hbm, 100, rfl⟩
abbrev main_call0_call0_v39 : Ref sig .tc := ⟨.hbm, 101, rfl⟩
abbrev main_call0_call0_v40 : Ref sig .tc := ⟨.hbm, 102, rfl⟩
abbrev main_call0_call0_c_9 : Ref sig .tc := ⟨.hbm, 103, rfl⟩
abbrev main_call0_call0_v41 : Ref sig .tc := ⟨.hbm, 104, rfl⟩
abbrev main_call0_call0_v42 : Ref sig .tc := ⟨.hbm, 105, rfl⟩
abbrev main_call0_call0_c_10 : Ref sig .tc := ⟨.hbm, 106, rfl⟩
abbrev main_call0_call0_v43 : Ref sig .tc := ⟨.hbm, 107, rfl⟩
abbrev main_call0_call0_v44 : Ref sig .tc := ⟨.hbm, 108, rfl⟩
abbrev main_call0_call0_v45 : Ref sig .tc := ⟨.hbm, 109, rfl⟩
abbrev main_call0_call0_v46 : Ref sig .tc := ⟨.hbm, 110, rfl⟩
abbrev main_call0_call0_v47 : Ref sig .tc := ⟨.hbm, 111, rfl⟩
abbrev main_call0_call0_c_11 : Ref sig .tc := ⟨.hbm, 112, rfl⟩
abbrev main_call0_call0_v48 : Ref sig .tc := ⟨.hbm, 113, rfl⟩
abbrev main_call0_call0_v49 : Ref sig .tc := ⟨.hbm, 114, rfl⟩
abbrev main_call0_call0_c_12 : Ref sig .tc := ⟨.hbm, 115, rfl⟩
abbrev main_call0_call0_v50 : Ref sig .tc := ⟨.hbm, 116, rfl⟩
abbrev main_call0_call0_v51 : Ref sig .tc := ⟨.hbm, 117, rfl⟩
abbrev main_call0_call0_v52 : Ref sig .tc := ⟨.hbm, 118, rfl⟩
abbrev main_call0_call0_v53 : Ref sig .tc := ⟨.hbm, 119, rfl⟩
abbrev main_call0_call0_v54 : Ref sig .tc := ⟨.hbm, 120, rfl⟩
abbrev main_call0_call0_c_13 : Ref sig .tc := ⟨.hbm, 121, rfl⟩
abbrev main_call0_call0_v55 : Ref sig .tc := ⟨.hbm, 122, rfl⟩
abbrev main_call0_call0_v56 : Ref sig .tc := ⟨.hbm, 123, rfl⟩
abbrev main_call0_call0_c_14 : Ref sig .tc := ⟨.hbm, 124, rfl⟩
abbrev main_call0_call0_v57 : Ref sig .tc := ⟨.hbm, 125, rfl⟩
abbrev main_call0_call0_v58 : Ref sig .tc := ⟨.hbm, 126, rfl⟩
abbrev main_call0_call0_v59 : Ref sig .tc := ⟨.hbm, 127, rfl⟩
abbrev main_call0_call0_v60 : Ref sig .tc := ⟨.hbm, 128, rfl⟩
abbrev main_call0_call0_v61 : Ref sig .tc := ⟨.hbm, 129, rfl⟩
abbrev main_call0_call0_c_15 : Ref sig .tc := ⟨.hbm, 130, rfl⟩
abbrev main_call0_call0_v62 : Ref sig .tc := ⟨.hbm, 131, rfl⟩
abbrev main_call0_call0_v63 : Ref sig .tc := ⟨.hbm, 132, rfl⟩
abbrev main_call0_call0_c_16 : Ref sig .tc := ⟨.hbm, 133, rfl⟩
abbrev main_call0_call0_v64 : Ref sig .tc := ⟨.hbm, 134, rfl⟩
abbrev main_call0_call0_v65 : Ref sig .tc := ⟨.hbm, 135, rfl⟩
abbrev main_call0_call0_v66 : Ref sig .tc := ⟨.hbm, 136, rfl⟩
abbrev main_call0_call0_v67 : Ref sig .tc := ⟨.hbm, 137, rfl⟩
abbrev main_call0_call0_v68 : Ref sig .tc := ⟨.hbm, 138, rfl⟩
abbrev main_call0_call0_v69 : Ref sig .tc := ⟨.hbm, 139, rfl⟩
abbrev main_call0_call0_v70 : Ref sig .tc := ⟨.hbm, 140, rfl⟩
abbrev main_call0_call0_v71 : Ref sig .tc := ⟨.hbm, 141, rfl⟩
abbrev main_call0_call0_c_17 : Ref sig .tc := ⟨.hbm, 142, rfl⟩
abbrev main_call0_call0_v72 : Ref sig .tc := ⟨.hbm, 143, rfl⟩
abbrev main_call0_call0_v73 : Ref sig .tc := ⟨.hbm, 144, rfl⟩
abbrev main_call0_call0_v74 : Ref sig .tc := ⟨.hbm, 145, rfl⟩
abbrev main_call0_call0_c_18 : Ref sig .tc := ⟨.hbm, 146, rfl⟩
abbrev main_call0_call0_v75 : Ref sig .tc := ⟨.hbm, 147, rfl⟩
abbrev main_call0_call0_v76 : Ref sig .tc := ⟨.hbm, 148, rfl⟩
abbrev main_call0_call0_c_19 : Ref sig .tc := ⟨.hbm, 149, rfl⟩
abbrev main_call0_call0_v77 : Ref sig .tc := ⟨.hbm, 150, rfl⟩
abbrev main_call0_call0_v78 : Ref sig .tc := ⟨.hbm, 151, rfl⟩
abbrev main_call0_call0_v79 : Ref sig .tc := ⟨.hbm, 152, rfl⟩
abbrev main_call0_call0_v80 : Ref sig .tc := ⟨.hbm, 153, rfl⟩
abbrev main_call0_call0_v81 : Ref sig .tc := ⟨.hbm, 154, rfl⟩
abbrev main_call0_call0_c_20 : Ref sig .tc := ⟨.hbm, 155, rfl⟩
abbrev main_call0_call0_v82 : Ref sig .tc := ⟨.hbm, 156, rfl⟩
abbrev main_call0_call0_v83 : Ref sig .tc := ⟨.hbm, 157, rfl⟩
abbrev main_call0_call0_c_21 : Ref sig .tc := ⟨.hbm, 158, rfl⟩
abbrev main_call0_call0_v84 : Ref sig .tc := ⟨.hbm, 159, rfl⟩
abbrev main_call0_call0_v85 : Ref sig .tc := ⟨.hbm, 160, rfl⟩
abbrev main_call0_call0_v86 : Ref sig .tc := ⟨.hbm, 161, rfl⟩
abbrev main_call0_call0_v87 : Ref sig .tc := ⟨.hbm, 162, rfl⟩
abbrev main_call0_call0_v88 : Ref sig .tc := ⟨.hbm, 163, rfl⟩
abbrev main_call0_call0_c_22 : Ref sig .tc := ⟨.hbm, 164, rfl⟩
abbrev main_call0_call0_v89 : Ref sig .tc := ⟨.hbm, 165, rfl⟩
abbrev main_call0_call0_v90 : Ref sig .tc := ⟨.hbm, 166, rfl⟩
abbrev main_call0_call0_c_23 : Ref sig .tc := ⟨.hbm, 167, rfl⟩
abbrev main_call0_call0_v91 : Ref sig .tc := ⟨.hbm, 168, rfl⟩
abbrev main_call0_call0_v92 : Ref sig .tc := ⟨.hbm, 169, rfl⟩
abbrev main_call0_call0_v93 : Ref sig .tc := ⟨.hbm, 170, rfl⟩
abbrev main_call0_call0_v94 : Ref sig .tc := ⟨.hbm, 171, rfl⟩
abbrev main_call0_call0_v95 : Ref sig .tc := ⟨.hbm, 172, rfl⟩
abbrev main_call0_call0_c_24 : Ref sig .tc := ⟨.hbm, 173, rfl⟩
abbrev main_call0_call0_v96 : Ref sig .tc := ⟨.hbm, 174, rfl⟩
abbrev main_call0_call0_v97 : Ref sig .tc := ⟨.hbm, 175, rfl⟩
abbrev main_call0_call0_c_25 : Ref sig .tc := ⟨.hbm, 176, rfl⟩
abbrev main_call0_call0_v98 : Ref sig .tc := ⟨.hbm, 177, rfl⟩
abbrev main_call0_call0_v99 : Ref sig .tc := ⟨.hbm, 178, rfl⟩
abbrev main_call0_call0_v100 : Ref sig .tc := ⟨.hbm, 179, rfl⟩
abbrev main_call0_call0_v101 : Ref sig .tc := ⟨.hbm, 180, rfl⟩
abbrev main_call0_call0_v102 : Ref sig .tc := ⟨.hbm, 181, rfl⟩
abbrev main_call0_call0_v103 : Ref sig .tc := ⟨.hbm, 182, rfl⟩
abbrev main_call0_call0_v104 : Ref sig .tc := ⟨.hbm, 183, rfl⟩
abbrev main_call0_call0_v105 : Ref sig .tc := ⟨.hbm, 184, rfl⟩
abbrev main_call0_call0_c_26 : Ref sig .tc := ⟨.hbm, 185, rfl⟩
abbrev main_call0_call0_v106 : Ref sig .tc := ⟨.hbm, 186, rfl⟩
abbrev main_call0_call0_v107 : Ref sig .tc := ⟨.hbm, 187, rfl⟩
abbrev main_call0_call0_v108 : Ref sig .tc := ⟨.hbm, 188, rfl⟩
abbrev main_call0_call0_c_27 : Ref sig .tc := ⟨.hbm, 189, rfl⟩
abbrev main_call0_call0_v109 : Ref sig .tc := ⟨.hbm, 190, rfl⟩
abbrev main_call0_call0_v110 : Ref sig .tc := ⟨.hbm, 191, rfl⟩
abbrev main_call0_call0_c_28 : Ref sig .tc := ⟨.hbm, 192, rfl⟩
abbrev main_call0_call0_v111 : Ref sig .tc := ⟨.hbm, 193, rfl⟩
abbrev main_call0_call0_v112 : Ref sig .tc := ⟨.hbm, 194, rfl⟩
abbrev main_call0_call0_v113 : Ref sig .tc := ⟨.hbm, 195, rfl⟩
abbrev main_call0_call0_v114 : Ref sig .tc := ⟨.hbm, 196, rfl⟩
abbrev main_call0_call0_v115 : Ref sig .tc := ⟨.hbm, 197, rfl⟩
abbrev main_call0_call0_c_29 : Ref sig .tc := ⟨.hbm, 198, rfl⟩
abbrev main_call0_call0_v116 : Ref sig .tc := ⟨.hbm, 199, rfl⟩
abbrev main_call0_call0_v117 : Ref sig .tc := ⟨.hbm, 200, rfl⟩
abbrev main_call0_call0_c_30 : Ref sig .tc := ⟨.hbm, 201, rfl⟩
abbrev main_call0_call0_v118 : Ref sig .tc := ⟨.hbm, 202, rfl⟩
abbrev main_call0_call0_v119 : Ref sig .tc := ⟨.hbm, 203, rfl⟩
abbrev main_call0_call0_v120 : Ref sig .tc := ⟨.hbm, 204, rfl⟩
abbrev main_call0_call0_v121 : Ref sig .tc := ⟨.hbm, 205, rfl⟩
abbrev main_call0_call0_v122 : Ref sig .tc := ⟨.hbm, 206, rfl⟩
abbrev main_call0_call0_c_31 : Ref sig .tc := ⟨.hbm, 207, rfl⟩
abbrev main_call0_call0_v123 : Ref sig .tc := ⟨.hbm, 208, rfl⟩
abbrev main_call0_call0_v124 : Ref sig .tc := ⟨.hbm, 209, rfl⟩
abbrev main_call0_call0_c_32 : Ref sig .tc := ⟨.hbm, 210, rfl⟩
abbrev main_call0_call0_v125 : Ref sig .tc := ⟨.hbm, 211, rfl⟩
abbrev main_call0_call0_v126 : Ref sig .tc := ⟨.hbm, 212, rfl⟩
abbrev main_call0_call0_v127 : Ref sig .tc := ⟨.hbm, 213, rfl⟩
abbrev main_call0_call0_v128 : Ref sig .tc := ⟨.hbm, 214, rfl⟩
abbrev main_call0_call0_v129 : Ref sig .tc := ⟨.hbm, 215, rfl⟩
abbrev main_call0_call0_c_33 : Ref sig .tc := ⟨.hbm, 216, rfl⟩
abbrev main_call0_call0_v130 : Ref sig .tc := ⟨.hbm, 217, rfl⟩
abbrev main_call0_call0_v131 : Ref sig .tc := ⟨.hbm, 218, rfl⟩
abbrev main_call0_call0_c_34 : Ref sig .tc := ⟨.hbm, 219, rfl⟩
abbrev main_call0_call0_v132 : Ref sig .tc := ⟨.hbm, 220, rfl⟩
abbrev main_call0_call0_v133 : Ref sig .tc := ⟨.hbm, 221, rfl⟩
abbrev main_call0_call0_v134 : Ref sig .tc := ⟨.hbm, 222, rfl⟩
abbrev main_call0_call0_v135 : Ref sig .tc := ⟨.hbm, 223, rfl⟩
abbrev main_call0_call0_v136 : Ref sig .tc := ⟨.hbm, 224, rfl⟩
abbrev main_call0_call0_v137 : Ref sig .tc := ⟨.hbm, 225, rfl⟩
abbrev main_call0_call0_v138 : Ref sig .tc := ⟨.hbm, 226, rfl⟩
abbrev main_call0_call0_v139 : Ref sig .tc := ⟨.hbm, 227, rfl⟩
abbrev main_call0_call0_c_35 : Ref sig .tc := ⟨.hbm, 228, rfl⟩
abbrev main_call0_call0_v140 : Ref sig .tc := ⟨.hbm, 229, rfl⟩
abbrev main_call0_call0_v141 : Ref sig .tc := ⟨.hbm, 230, rfl⟩
abbrev main_call0_call0_v142 : Ref sig .tc := ⟨.hbm, 231, rfl⟩
abbrev main_call0_call0_c_36 : Ref sig .tc := ⟨.hbm, 232, rfl⟩
abbrev main_call0_call0_v143 : Ref sig .tc := ⟨.hbm, 233, rfl⟩
abbrev main_call0_call0_v144 : Ref sig .tc := ⟨.hbm, 234, rfl⟩
abbrev main_call0_call0_c_37 : Ref sig .tc := ⟨.hbm, 235, rfl⟩
abbrev main_call0_call0_v145 : Ref sig .tc := ⟨.hbm, 236, rfl⟩
abbrev main_call0_call0_v146 : Ref sig .tc := ⟨.hbm, 237, rfl⟩
abbrev main_call0_call0_v147 : Ref sig .tc := ⟨.hbm, 238, rfl⟩
abbrev main_call0_call0_v148 : Ref sig .tc := ⟨.hbm, 239, rfl⟩
abbrev main_call0_call0_v149 : Ref sig .tc := ⟨.hbm, 240, rfl⟩
abbrev main_call0_call0_c_38 : Ref sig .tc := ⟨.hbm, 241, rfl⟩
abbrev main_call0_call0_v150 : Ref sig .tc := ⟨.hbm, 242, rfl⟩
abbrev main_call0_call0_v151 : Ref sig .tc := ⟨.hbm, 243, rfl⟩
abbrev main_call0_call0_c_39 : Ref sig .tc := ⟨.hbm, 244, rfl⟩
abbrev main_call0_call0_v152 : Ref sig .tc := ⟨.hbm, 245, rfl⟩
abbrev main_call0_call0_v153 : Ref sig .tc := ⟨.hbm, 246, rfl⟩
abbrev main_call0_call0_v154 : Ref sig .tc := ⟨.hbm, 247, rfl⟩
abbrev main_call0_call0_v155 : Ref sig .tc := ⟨.hbm, 248, rfl⟩
abbrev main_call0_call0_v156 : Ref sig .tc := ⟨.hbm, 249, rfl⟩
abbrev main_call0_call0_c_40 : Ref sig .tc := ⟨.hbm, 250, rfl⟩
abbrev main_call0_call0_v157 : Ref sig .tc := ⟨.hbm, 251, rfl⟩
abbrev main_call0_call0_v158 : Ref sig .tc := ⟨.hbm, 252, rfl⟩
abbrev main_call0_call0_c_41 : Ref sig .tc := ⟨.hbm, 253, rfl⟩
abbrev main_call0_call0_v159 : Ref sig .tc := ⟨.hbm, 254, rfl⟩
abbrev main_call0_call0_v160 : Ref sig .tc := ⟨.hbm, 255, rfl⟩
abbrev main_call0_call0_v161 : Ref sig .tc := ⟨.hbm, 256, rfl⟩
abbrev main_call0_call0_v162 : Ref sig .tc := ⟨.hbm, 257, rfl⟩
abbrev main_call0_call0_v163 : Ref sig .tc := ⟨.hbm, 258, rfl⟩
abbrev main_call0_call0_c_42 : Ref sig .tc := ⟨.hbm, 259, rfl⟩
abbrev main_call0_call0_v164 : Ref sig .tc := ⟨.hbm, 260, rfl⟩
abbrev main_call0_call0_v165 : Ref sig .tc := ⟨.hbm, 261, rfl⟩
abbrev main_call0_call0_c_43 : Ref sig .tc := ⟨.hbm, 262, rfl⟩
abbrev main_call0_call0_v166 : Ref sig .tc := ⟨.hbm, 263, rfl⟩
abbrev main_call0_call0_v167 : Ref sig .tc := ⟨.hbm, 264, rfl⟩
abbrev main_call0_call0_v168 : Ref sig .tc := ⟨.hbm, 265, rfl⟩
abbrev main_call0_call0_v169 : Ref sig .tc := ⟨.hbm, 266, rfl⟩
abbrev main_call0_call0_v170 : Ref sig .tc := ⟨.hbm, 267, rfl⟩
abbrev main_call0_v19_0 : Ref sig .tc := ⟨.hbm, 268, rfl⟩
abbrev main_call0_call0_v172 : Ref sig .tc := ⟨.hbm, 269, rfl⟩
abbrev main_call0_call0_v173 : Ref sig .tc := ⟨.hbm, 270, rfl⟩
abbrev main_call0_call0_c_44 : Ref sig .tc := ⟨.hbm, 271, rfl⟩
abbrev main_call0_call0_v174 : Ref sig .tc := ⟨.hbm, 272, rfl⟩
abbrev main_call0_v19_1 : Ref sig .tc := ⟨.hbm, 273, rfl⟩
abbrev main_call0_v20 : Ref sig .tc := ⟨.hbm, 274, rfl⟩
abbrev main_call0_c_2 : Ref sig .tc := ⟨.hbm, 275, rfl⟩
abbrev main_call0_v21 : Ref sig .tc := ⟨.hbm, 276, rfl⟩
abbrev main_call0_v22 : Ref sig .tc := ⟨.hbm, 277, rfl⟩
abbrev main_call0_c_3 : Ref sig .tc := ⟨.hbm, 278, rfl⟩
abbrev main_call0_v23 : Ref sig .tc := ⟨.hbm, 279, rfl⟩
abbrev main_call0_v24 : Ref sig .tc := ⟨.hbm, 280, rfl⟩
abbrev main_call0_v25 : Ref sig .tc := ⟨.hbm, 281, rfl⟩
abbrev main_call0_cst : Ref sig .tc := ⟨.hbm, 282, rfl⟩
abbrev main_call0_v26 : Ref sig .tc := ⟨.hbm, 283, rfl⟩
abbrev main_call0_v27 : Ref sig .tc := ⟨.hbm, 284, rfl⟩
abbrev main_call0_v28 : Ref sig .tc := ⟨.hbm, 285, rfl⟩
abbrev main_call0_v29 : Ref sig .tc := ⟨.hbm, 286, rfl⟩
abbrev main_call0_v30 : Ref sig .tc := ⟨.hbm, 287, rfl⟩
abbrev main_call0_v31 : Ref sig .tc := ⟨.hbm, 288, rfl⟩
abbrev main_call0_v32 : Ref sig .tc := ⟨.hbm, 289, rfl⟩
abbrev main_call0_v33 : Ref sig .tc := ⟨.hbm, 290, rfl⟩
abbrev main_v20 : Ref sig .tc := ⟨.hbm, 291, rfl⟩
abbrev main_v21 : Ref sig .tc := ⟨.hbm, 292, rfl⟩
abbrev main_v22 : Ref sig .tc := ⟨.hbm, 293, rfl⟩
abbrev main_v23 : Ref sig .tc := ⟨.hbm, 294, rfl⟩
abbrev main_v24 : Ref sig .tc := ⟨.hbm, 295, rfl⟩
abbrev main_v25 : Ref sig .tc := ⟨.hbm, 296, rfl⟩
abbrev main_v26 : Ref sig .tc := ⟨.hbm, 297, rfl⟩
abbrev main_call1_v0 : Ref sig .tc := ⟨.hbm, 298, rfl⟩
abbrev main_call1_cst : Ref sig .tc := ⟨.hbm, 299, rfl⟩
abbrev main_call1_c : Ref sig .tc := ⟨.hbm, 300, rfl⟩
abbrev main_call1_v1_0 : Ref sig .tc := ⟨.hbm, 301, rfl⟩
abbrev main_v27 : Ref sig .tc := ⟨.hbm, 302, rfl⟩
abbrev main_v28 : Ref sig .tc := ⟨.hbm, 303, rfl⟩

abbrev nD : Nat := 1
abbrev τ : Topo := Topo.v7x

variable {F : FTy → Type} [FloatOps F]
-- ==== Proof.My.Clean.lean ====
/- The kernel's two bodies written compactly: the threefry bits of a tile, one tile's maximum and its
   first column, the running choice over tiles, and the two bodies as programs over these. The
   printed functions are these programs. -/
module

public import proofs.«01_k».proof.Proof.Gen.KernelIdeal.Skeleton

@[expose] public section

set_option maxRecDepth 65536

noncomputable section

namespace Cert.KernelIdeal.Clean

open Idealize.ShloMosaic Idealize.SL.Sem Cert.KernelIdeal
open Facts₀ Facts

variable {F : FTy → Type} [FloatOps F]

/-- One tile's array of 32-bit integers. -/
abbrev IV := IVec S64x1024 32

/-- Rotation of every word to the left by `r`, `t` being `32 - r`. -/
def rotV (x : IV) (r t : BitVec 32) : IV :=
  ori (shli x (broadcast S64x1024 r)) (shrui x (broadcast S64x1024 t))

/-- The second word after one mixing round, from the new first word and the old second one. -/
def mixV (y x : IV) (r t : BitVec 32) : IV := xori (rotV x r t) y

/-- A constant added to every word. -/
def addV (x : IV) (k : BitVec 32) : IV := addi x (broadcast S64x1024 k)

/-- Threefry-2x32 with key (0, 42) at the counter (0, `i`), the two output words combined. -/
def bitsV (i : IV) : IV :=
  have b0 : IV := addV i 42#32
  have a0 : IV := addi (broadcast S64x1024 0#32) b0
  have a1 : IV := a0
  have b1 : IV := mixV a1 b0 13#32 19#32
  have a2 : IV := addi a1 b1
  have b2 : IV := mixV a2 b1 15#32 17#32
  have a3 : IV := addi a2 b2
  have b3 : IV := mixV a3 b2 26#32 6#32
  have a4 : IV := addi a3 b3
  have b4 : IV := mixV a4 b3 6#32 26#32
  have a5 : IV := addV a4 42#32
  have b5 : IV := addV b4 466689009#32
  have a6 : IV := addi a5 b5
  have b6 : IV := mixV a6 b5 17#32 15#32
  have a7 : IV := addi a6 b6
  have b7 : IV := mixV a7 b6 29#32 3#32
  have a8 : IV := addi a7 b7
  have b8 : IV := mixV a8 b7 16#32 16#32
  have a9 : IV := addi a8 b8
  have b9 : IV := mixV a9 b8 24#32 8#32
  have a10 : IV := addV a9 466689008#32
  have b10 : IV := addV b9 2#32
  have a11 : IV := addi a10 b10
  have b11 : IV := mixV a11 b10 13#32 19#32
  have a12 : IV := addi a11 b11
  have b12 : IV := mixV a12 b11 15#32 17#32
  have a13 : IV := addi a12 b12
  have b13 : IV := mixV a13 b12 26#32 6#32
  have a14 : IV := addi a13 b13
  have b14 : IV := mixV a14 b13 6#32 26#32
  have a15 : IV := addV a14 0#32
  have b15 : IV := addV b14 45#32
  have a16 : IV := addi a15 b15
  have b16 : IV := mixV a16 b15 17#32 15#32
  have a17 : IV := addi a16 b16
  have b17 : IV := mixV a17 b16 29#32 3#32
  have a18 : IV := addi a17 b17
  have b18 : IV := mixV a18 b17 16#32 16#32
  have a19 : IV := addi a18 b18
  have b19 : IV := mixV a19 b18 24#32 8#32
  have a20 : IV := addV a19 42#32
  have b20 : IV := addV b19 466689012#32
  have a21 : IV := addi a20 b20
  have b21 : IV := mixV a21 b20 13#32 19#32
  have a22 : IV := addi a21 b21
  have b22 : IV := mixV a22 b21 15#32 17#32
  have a23 : IV := addi a22 b22
  have b23 : IV := mixV a23 b22 26#32 6#32
  have a24 : IV := addi a23 b23
  have b24 : IV := mixV a24 b23 6#32 26#32
  have a25 : IV := addV a24 466689008#32
  have b25 : IV := addV b24 5#32
  xori a25 b25

/-- The noise of a tile: `-log (-log u)`, with `u` the number in [0, 1) that 23 of a word's bits give. -/
def noiseV (bits : IV) : FVec F S64x1024 .f32 :=
  have f : IV := ori (shrui bits (broadcast S64x1024 9#32)) (broadcast S64x1024 1065353216#32)
  have u : FVec F S64x1024 .f32 := subf (bitcastToFloat .f32 f) (broadcast S64x1024 (Scalar.ofBits .f32 0x3F800000#32))
  have e : FVec F S64x1024 .f32 := subf (broadcast S64x1024 (Scalar.ofBits .f32 0x00000000#32)) (log u)
  subf (broadcast S64x1024 (Scalar.ofBits .f32 0x00000000#32)) (log e)

/-- The lane of every entry of a tile. -/
def laneV [Facts] : IV := iota .tc S64x1024 32 [1] iota_S64x1024_d1_w32

/-- The flat index, in the whole array, of every entry of the tile that starts at column `col`. -/
def flatV [Facts] (col : BitVec 32) : IV :=
  addi (addi (muli (iota .tc S64x1024 32 [0] iota_S64x1024_d0_w32) (broadcast S64x1024 1000000#32)) laneV)
    (broadcast S64x1024 col)

/-- The perturbed scores of the tile `x` that starts at column `col`. -/
def scoreV [Facts] (x : Vec F S64x1024 .f32) (col : BitVec 32) : FVec F S64x1024 .f32 :=
  addf x (noiseV (bitsV (flatV col)))

/-- The largest score of every row of a tile. -/
def maxV [Facts] (v : FVec F S64x1024 .f32) : FVec F S64x1 .f32 :=
  shapeCast S64x1 (multiReduction .maximumf [1] S64 v 0xFF800000#32 reduces_S64x1024_S64 (.inl rfl) rfl) shapeCasts_S64_S64x1

/-- The column of the first entry of every row that holds the row's largest score. -/
def argV [Facts] (v : FVec F S64x1024 .f32) (col : BitVec 32) : IVec S64x1 32 :=
  addi (shapeCast S64x1 (multiReductionI .minsi [1] S64
      (select (cmpf .oeq v (broadcastTo S64x1024 (maxV v) broadcasts_S64x1_S64x1024)) laneV (broadcast S64x1024 2147483647#32))
      2147483647#32 reduces_S64x1024_S64 rfl) shapeCasts_S64_S64x1) (broadcast S64x1 col)

/-- The larger of two values per row, the second one at a tie. -/
def pickVal (a b : FVec F S64x1 .f32) : FVec F S64x1 .f32 := select (cmpf .ogt a b) a b

/-- The index that goes with the larger of two values. -/
def pickIdx (a b : FVec F S64x1 .f32) (i j : IVec S64x1 32) : IVec S64x1 32 := select (cmpf .ogt a b) i j

/-- The column at which tile `s` of block `base` begins. -/
def colOf (base : BitVec 32) (s : Nat) : BitVec 32 := Scalar.addi base (BitVec.ofNat 32 (1024 * s))

theorem tile_inb {s : Nat} (h : s < 24) : ∀ a, (![0, 1024 * s] : Fin 2 → Nat) a + S64x1024.size a ≤ S64x24576.size a := by
  intro a
  fin_cases a
  · exact Nat.le_refl _
  · show 1024 * s + 1024 ≤ 24576
    omega

/-- The running choice over the tiles `0, …, n` of a block: each tile loaded, its maximum and column
    chosen over those so far when it is strictly larger. -/
def scanP [Facts] (arg1 : Memref sig .tc .vmem S64x24576 .f32) (base : BitVec 32) :
    (n : Nat) → n < 24 → Prog (TpuEff nD τ sig (Elt F) Λ₀ .tc) (FVec F S64x1 .f32 × IVec S64x1 32)
  | 0, h => do
    let x : Vec F S64x1024 .f32 ← Prog.lift (.load arg1 (Rect.unit (s := S64x24576) ![0, 1024 * 0] S64x1024.size (tile_inb h)).toLoadRect (View.loadsAt_vmem h_S64x1024))
    pure (maxV (scoreV x (colOf base 0)), argV (scoreV x (colOf base 0)) (colOf base 0))
  | n + 1, h => do
    let p ← scanP arg1 base n (Nat.lt_of_succ_lt h)
    let x : Vec F S64x1024 .f32 ← Prog.lift (.load arg1 (Rect.unit (s := S64x24576) ![0, 1024 * (n + 1)] S64x1024.size (tile_inb h)).toLoadRect (View.loadsAt_vmem h_S64x1024))
    pure (pickVal (maxV (scoreV x (colOf base (n + 1)))) p.1,
      pickIdx (maxV (scoreV x (colOf base (n + 1)))) p.1 (argV (scoreV x (colOf base (n + 1))) (colOf base (n + 1))) p.2)

/-- The update of the two result blocks: at the first grid point (`c1`) they are set, at a later one
    (`c2`) the new pair replaces the old where its value is strictly larger. -/
def updateP [Facts] (c1 c2 : BitVec 1) (arg2 : Memref sig .tc .vmem S64x1 .i32) (arg3 : Memref sig .tc .vmem S64x1 .f32)
    (bm : FVec F S64x1 .f32) (bi : IVec S64x1 32) : Prog (TpuEff nD τ sig (Elt F) Λ₀ .tc) PUnit := do
  if h1 : c1 = 1#1 then do
    let w1 : Vec F S64x1 .f32 ← Prog.lift (.load arg3 (Rect.unit (s := S64x1) ![0, 0] S64x1.size inb_S64x1_S64x1_0_0).toLoadRect (View.loadsAt_vmem h_S64x1))
    Prog.lift (.store arg3 (Rect.unit (s := S64x1) ![0, 0] S64x1.size inb_S64x1_S64x1_0_0) bm Finset.univ (View.stores_vmem_bits_univ h_S64x1 rfl) (.inl rfl))
    let w2 : Vec F S64x1 .i32 ← Prog.lift (.load arg2 (Rect.unit (s := S64x1) ![0, 0] S64x1.size inb_S64x1_S64x1_0_0).toLoadRect (View.loadsAt_vmem h_S64x1))
    Prog.lift (.store arg2 (Rect.unit (s := S64x1) ![0, 0] S64x1.size inb_S64x1_S64x1_0_0) bi Finset.univ (View.stores_vmem_bits_univ h_S64x1 rfl) (.inl rfl))
    pure ⟨⟩
  else do
    pure ⟨⟩
  if h2 : c2 = 1#1 then do
    let w1 : Vec F S64x1 .f32 ← Prog.lift (.load arg3 (Rect.unit (s := S64x1) ![0, 0] S64x1.size inb_S64x1_S64x1_0_0).toLoadRect (View.loadsAt_vmem h_S64x1))
    have a1 : FVec F S64x1 .f32 := shapeCast S64x1 w1 shapeCasts_S64x1_S64x1
    let w2 : Vec F S64x1 .f32 ← Prog.lift (.load arg3 (Rect.unit (s := S64x1) ![0, 0] S64x1.size inb_S64x1_S64x1_0_0).toLoadRect (View.loadsAt_vmem h_S64x1))
    have a2 : FVec F S64x1 .f32 := shapeCast S64x1 w2 shapeCasts_S64x1_S64x1
    let w3 : Vec F S64x1 .f32 ← Prog.lift (.load arg3 (Rect.unit (s := S64x1) ![0, 0] S64x1.size inb_S64x1_S64x1_0_0).toLoadRect (View.loadsAt_vmem h_S64x1))
    Prog.lift (.store arg3 (Rect.unit (s := S64x1) ![0, 0] S64x1.size inb_S64x1_S64x1_0_0) (select (cmpf .ogt bm a1) bm a2) Finset.univ (View.stores_vmem_bits_univ h_S64x1 rfl) (.inl rfl))
    let w4 : Vec F S64x1 .i32 ← Prog.lift (.load arg2 (Rect.unit (s := S64x1) ![0, 0] S64x1.size inb_S64x1_S64x1_0_0).toLoadRect (View.loadsAt_vmem h_S64x1))
    have a4 : IVec S64x1 32 := shapeCast S64x1 w4 shapeCasts_S64x1_S64x1
    let w5 : Vec F S64x1 .i32 ← Prog.lift (.load arg2 (Rect.unit (s := S64x1) ![0, 0] S64x1.size inb_S64x1_S64x1_0_0).toLoadRect (View.loadsAt_vmem h_S64x1))
    Prog.lift (.store arg2 (Rect.unit (s := S64x1) ![0, 0] S64x1.size inb_S64x1_S64x1_0_0) (select (cmpf .ogt bm a1) bi a4) Finset.univ (View.stores_vmem_bits_univ h_S64x1 rfl) (.inl rfl))
    pure ⟨⟩
  else do
    pure ⟨⟩

/-- The first call's body: the 24 tiles of a block, then the update. -/
def mainP [Facts] (i : grid0.Coords) (arg1 : Memref sig .tc .vmem S64x24576 .f32)
    (arg2 : Memref sig .tc .vmem S64x1 .i32) (arg3 : Memref sig .tc .vmem S64x1 .f32) :
    Prog (TpuEff nD τ sig (Elt F) Λ₀ .tc) PUnit := do
  let p ← scanP arg1 (Scalar.muli (BitVec.ofNat 32 (i 0).val) 24576#32) 23 (by decide)
  updateP (k0_cond1 i) (k0_cond2 i) arg2 arg3 p.1 p.2

/-- The second call's starting column at a grid point. -/
def tailCol (i : grid1.Coords) : BitVec 32 :=
  Scalar.addi (Scalar.addi 983040#32 (Scalar.muli (BitVec.ofNat 32 (i 0).val) 1024#32)) 0#32

/-- The scores of one tile of the second call, minus infinity past the array's last column. -/
def maskedV [Facts] (x : Vec F S64x1024 .f32) (col : BitVec 32) : FVec F S64x1024 .f32 :=
  select (cmpi .slt (addi laneV (broadcast S64x1024 col)) (broadcast S64x1024 1000000#32)) (scoreV x col)
    (broadcast S64x1024 (Scalar.ofBits .f32 0xFF800000#32))

/-- The second call's body: one masked tile, then the update. -/
def tailP [Facts] (i : grid1.Coords) (arg1 : Memref sig .tc .vmem S64x1024 .f32)
    (arg2 : Memref sig .tc .vmem S64x1 .i32) (arg3 : Memref sig .tc .vmem S64x1 .f32) :
    Prog (TpuEff nD τ sig (Elt F) Λ₀ .tc) PUnit := do
  let x : Vec F S64x1024 .f32 ← Prog.lift (.load arg1 (Rect.unit (s := S64x1024) ![0, 0] S64x1024.size inb_S64x1024_S64x1024_0_0).toLoadRect (View.loadsAt_vmem h_S64x1024))
  updateP (k1_cond1 i) (k1_cond2 i) arg2 arg3 (maxV (maskedV x (tailCol i))) (argV (maskedV x (tailCol i)) (tailCol i))

/-- The printed second body is the compact one. -/
theorem tail_eq [Facts] (i : grid1.Coords) (arg1 : Memref sig .tc .vmem S64x1024 .f32) (harg1 : arg1.IsWhole)
    (arg2 : Memref sig .tc .vmem S64x1 .i32) (harg2 : arg2.IsWhole) (arg3 : Memref sig .tc .vmem S64x1 .f32) (harg3 : arg3.IsWhole) :
    cc1__tail_kernel (F := F) i arg1 harg1 arg2 harg2 arg3 harg3 = tailP i arg1 arg2 arg3 := rfl
end Cert.KernelIdeal.Clean

end
-- ==== Proof.My.Body.lean ====
/-
  What the two bodies of `Clean.lean` do to their staging buffers: from the three buffers held, each body runs to
  its end, leaves the input's buffer as it was, and leaves in the two result buffers the values named here.
-/
module

public import proofs.«01_k».proof.Proof.My.Clean
public import proofs.«01_k».proof.Proof.Gen.KernelIdeal.Launch
public import Idealize.ShloMosaic.Lib.Tactic
public import Idealize.ShloMosaic.Lib.VecWindow

@[expose] public section

noncomputable section

namespace Cert.KernelIdeal.Clean

open Idealize.ShloMosaic Idealize.SL.Sem Cert.KernelIdeal
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

open Facts₀ Facts

variable {F : FTy → Type} [FloatOps F]

local notation "𝕄" => MT nD τ sig Unit (Elt F) ℕ (UR sig nD τ) ℕ

/-- The kernel's variants: none. -/
abbrev 𝒱₀ : Variants := Variants.none

/-! ## One load, one store -/

/-- A load through a held memref reads what the memref holds, at the rectangle. -/
theorem load_owns (c : Dev nD) (E : Set ℕ) {s : Shape} {e : EltTy} (M : Memref sig .tc .vmem s e) (X : s.Idx → Elt F e)
    {r : Rect s} {hl : M.view.LoadsAt r.toLoadRect} {α : Type} {k : (r.toLoadRect.shape.Idx → Elt F e) → Prog (TpuEff nD τ sig (Elt F) Λ₀ .tc) α}
    {Q : α → sProp 𝕄} :
    iprop(owns (c : Thread nD τ) M fullShare X
        ∗ (owns (c : Thread nD τ) M fullShare X -∗ wp frame (wpE (defs₀ (F := F)) 𝒱₀ c none) E (k fun y => X (r.emb y)) Q))
      ⊢ wp frame (wpE (defs₀ (F := F)) 𝒱₀ c none) E (.op (.load M r.toLoadRect hl) k) Q := by
  unfold owns
  iintro ⟨⟨%f, %hf, H⟩, Hk⟩
  subst hf
  iapply (wp_load 𝒱₀ (c : Thread nD τ) none E (hl := hl) (k := k) (View.setOn_subset_set _ _)) $$ H
  iintro H
  iapply Hk
  iexists f
  isplitr
  · ipureintro; rfl
  · iexact H

/-- A store over a whole held memref leaves it holding what was stored. -/
theorem store_owns (c : Dev nD) (E : Set ℕ) {s : Shape} {e : EltTy} (M : Memref sig .tc .vmem s e) (X : s.Idx → Elt F e)
    {off : Fin s.rank → ℕ} {inb : ∀ a, off a + s.size a ≤ s.size a} {w : (Rect.unit off s.size inb).shape.Idx → Elt F e}
    {hx : (M.access (Rect.unit off s.size inb)).Stores Finset.univ} {hm : Finset.univ = Finset.univ ∨ ∀ a, (Rect.unit off s.size inb).stride a = 1}
    {α : Type} {k : PUnit → Prog (TpuEff nD τ sig (Elt F) Λ₀ .tc) α} {Q : α → sProp 𝕄} :
    iprop(owns (c : Thread nD τ) M fullShare X
        ∗ (owns (c : Thread nD τ) M fullShare (w : s.Idx → Elt F e) -∗ wp frame (wpE (defs₀ (F := F)) 𝒱₀ c none) E (k ⟨⟩) Q))
      ⊢ wp frame (wpE (defs₀ (F := F)) 𝒱₀ c none) E (.op (.store M (Rect.unit off s.size inb) w Finset.univ hx hm) k) Q := by
  unfold owns
  iintro ⟨⟨%f, %hf, H⟩, Hk⟩
  have hw : M.view.read (Elt F) ((M.access (Rect.unit off s.size inb)).write (Elt F) f w Finset.univ) = w :=
    View.read_writes_full M.view f inb w []
  iapply (wp_store 𝒱₀ (c : Thread nD τ) none E (hx := hx) (hm := hm) (k := k) (f := f) (S := M.view.set)
    (View.setOn_slice_subset_set _ _ _)) $$ H
  iintro H
  iapply Hk
  iexists ((M.access (Rect.unit off s.size inb)).write (Elt F) f w Finset.univ)
  isplitr
  · ipureintro; exact hw
  · iexact H

/-! ## The values -/

/-- Tile `s` of a block. -/
def tileOf (X : Vec F S64x24576 .f32) (s : Nat) (h : s < 24) : Vec F S64x1024 .f32 :=
  fun y => X ((Rect.unit (s := S64x24576) ![0, 1024 * s] S64x1024.size (tile_inb h)).emb y)

/-- A load of tile `s` of a held block reads the tile. -/
theorem load_tile (c : Dev nD) (E : Set ℕ) (M : Memref sig .tc .vmem S64x24576 .f32) (X : Vec F S64x24576 .f32) (s : Nat) (h : s < 24)
    {hl : M.view.LoadsAt (Rect.unit (s := S64x24576) ![0, 1024 * s] S64x1024.size (tile_inb h)).toLoadRect} {α : Type}
    {k : Vec F S64x1024 .f32 → Prog (TpuEff nD τ sig (Elt F) Λ₀ .tc) α} {Q : α → sProp 𝕄} :
    iprop(owns (c : Thread nD τ) M fullShare X
        ∗ (owns (c : Thread nD τ) M fullShare X -∗ wp frame (wpE (defs₀ (F := F)) 𝒱₀ c none) E (k (tileOf X s h)) Q))
      ⊢ wp frame (wpE (defs₀ (F := F)) 𝒱₀ c none) E
          (.op (.load M (Rect.unit (s := S64x24576) ![0, 1024 * s] S64x1024.size (tile_inb h)).toLoadRect hl) k) Q :=
  load_owns c E M X (r := Rect.unit (s := S64x24576) ![0, 1024 * s] S64x1024.size (tile_inb h)) (hl := hl) (k := k) (Q := Q)

/-- A load of a whole held memref reads what it holds. -/
theorem load_whole (c : Dev nD) (E : Set ℕ) {d : Fin 2 → Nat} {e : EltTy} (M : Memref sig .tc .vmem ⟨2, d⟩ e) (X : Vec F ⟨2, d⟩ e)
    {off : Fin 2 → Nat} {inb : ∀ a, off a + d a ≤ d a}
    {hl : M.view.LoadsAt (Rect.unit (s := ⟨2, d⟩) off d inb).toLoadRect} {α : Type}
    {k : Vec F ⟨2, d⟩ e → Prog (TpuEff nD τ sig (Elt F) Λ₀ .tc) α} {Q : α → sProp 𝕄} :
    iprop(owns (c : Thread nD τ) M fullShare X
        ∗ (owns (c : Thread nD τ) M fullShare X -∗ wp frame (wpE (defs₀ (F := F)) 𝒱₀ c none) E (k X) Q))
      ⊢ wp frame (wpE (defs₀ (F := F)) 𝒱₀ c none) E
          (.op (.load M (Rect.unit (s := ⟨2, d⟩) off d inb).toLoadRect hl) k) Q := by
  have hz : (fun y => X ((Rect.unit (s := ⟨2, d⟩) off d inb).emb y)) = X :=
    funext fun y => congrArg X (Rect.emb_unit_full (s := ⟨2, d⟩) inb y)
  have := load_owns (F := F) c E M X (r := Rect.unit (s := ⟨2, d⟩) off d inb) (hl := hl) (k := k) (Q := Q)
  rwa [hz] at this

/-- The running choice over the tiles `0, …, n` of the block `X`. -/
def scanV [Facts] (X : Vec F S64x24576 .f32) (base : BitVec 32) : (n : Nat) → n < 24 → FVec F S64x1 .f32 × IVec S64x1 32
  | 0, h => (maxV (scoreV (tileOf X 0 h) (colOf base 0)), argV (scoreV (tileOf X 0 h) (colOf base 0)) (colOf base 0))
  | n + 1, h =>
    (pickVal (maxV (scoreV (tileOf X (n + 1) h) (colOf base (n + 1)))) (scanV X base n (Nat.lt_of_succ_lt h)).1,
      pickIdx (maxV (scoreV (tileOf X (n + 1) h) (colOf base (n + 1)))) (scanV X base n (Nat.lt_of_succ_lt h)).1
        (argV (scoreV (tileOf X (n + 1) h) (colOf base (n + 1))) (colOf base (n + 1))) (scanV X base n (Nat.lt_of_succ_lt h)).2)

/-- The tile loop reads the block and returns the running choice. -/
theorem scan_run [Facts] (c : Dev nD) (E : Set ℕ) (M : Memref sig .tc .vmem S64x24576 .f32) (X : Vec F S64x24576 .f32) (base : BitVec 32) :
    ∀ (n : Nat) (h : n < 24) (Q : FVec F S64x1 .f32 × IVec S64x1 32 → sProp 𝕄),
    iprop(owns (c : Thread nD τ) M fullShare X ∗ (owns (c : Thread nD τ) M fullShare X -∗ Q (scanV X base n h)))
      ⊢ wp frame (wpE (defs₀ (F := F)) 𝒱₀ c none) E (scanP M base n h) Q
  | 0, h, Q => by
    unfold scanP scanV
    simp only [Prog.lift, Prog.bind_op, Prog.bind_ret]
    iintro ⟨H, Hk⟩
    iapply (load_tile c E M X)
    isplitl [H]; · iexact H
    iintro H
    iapply Idealize.SL.Sem.le_wp_ret
    iapply Hk
    iexact H
  | n + 1, h, Q => by
    unfold scanP scanV
    rw [wp_bind]
    iintro ⟨H, Hk⟩
    iapply (scan_run c E M X base n (Nat.lt_of_succ_lt h))
    isplitl [H]; · iexact H
    iintro H
    simp only [Prog.lift, Prog.bind_op, Prog.bind_ret]
    iapply (load_tile c E M X)
    isplitl [H]; · iexact H
    iintro H
    iapply Idealize.SL.Sem.le_wp_ret
    iapply Hk
    iexact H

/-- What a result block's update reads: the block as stored. -/
def castV {e : EltTy} (x : Vec F S64x1 e) [Facts] : Vec F S64x1 e := shapeCast S64x1 x shapeCasts_S64x1_S64x1

/-- The two result blocks after the update's first branch: set to the new pair, or as they were. -/
def setV (c1 : BitVec 1) (bm : FVec F S64x1 .f32) (bi : IVec S64x1 32) (p : FVec F S64x1 .f32 × IVec S64x1 32) :
    FVec F S64x1 .f32 × IVec S64x1 32 :=
  if c1 = 1#1 then (bm, bi) else p

/-- The two result blocks after the update's second branch: the larger pair, or as they were. -/
def joinV [Facts] (c2 : BitVec 1) (bm : FVec F S64x1 .f32) (bi : IVec S64x1 32) (p : FVec F S64x1 .f32 × IVec S64x1 32) :
    FVec F S64x1 .f32 × IVec S64x1 32 :=
  if c2 = 1#1 then
    (pickVal bm (castV (F := F) (e := .f32) p.1), pickIdx bm (castV (F := F) (e := .f32) p.1) bi (castV (F := F) (e := .i32) p.2))
  else p

/-- The update leaves the two result blocks at the values its branches choose. -/
theorem update_run [Facts] (c : Dev nD) (E : Set ℕ) (c1 c2 : BitVec 1) (M2 : Memref sig .tc .vmem S64x1 .i32) (M3 : Memref sig .tc .vmem S64x1 .f32)
    (bm : FVec F S64x1 .f32) (bi : IVec S64x1 32) (Xv : FVec F S64x1 .f32) (Xi : IVec S64x1 32) (Q : PUnit → sProp 𝕄) :
    iprop(owns (c : Thread nD τ) M2 fullShare (Xi : Vec F S64x1 .i32) ∗ owns (c : Thread nD τ) M3 fullShare (Xv : Vec F S64x1 .f32)
        ∗ (iprop(owns (c : Thread nD τ) M2 fullShare ((joinV c2 bm bi (setV c1 bm bi (Xv, Xi))).2 : Vec F S64x1 .i32)
            ∗ owns (c : Thread nD τ) M3 fullShare ((joinV c2 bm bi (setV c1 bm bi (Xv, Xi))).1 : Vec F S64x1 .f32)) -∗ Q ⟨⟩))
      ⊢ wp frame (wpE (defs₀ (F := F)) 𝒱₀ c none) E (updateP c1 c2 M2 M3 bm bi) Q := by
  unfold updateP joinV setV castV pickVal pickIdx
  by_cases h1 : c1 = 1#1 <;> by_cases h2 : c2 = 1#1 <;>
    simp only [h1, h2, dif_pos, dif_neg, if_pos, if_neg, Prog.lift, Prog.bind_op, Prog.bind_ret, not_false_eq_true, reduceDIte, reduceIte]
  · iintro ⟨H2, H3, Hk⟩
    iapply (load_whole c E M3 Xv)
    isplitl [H3]; · iexact H3
    iintro H3
    iapply (store_owns c E M3 Xv)
    isplitl [H3]; · iexact H3
    iintro H3
    iapply (load_whole c E M2 Xi)
    isplitl [H2]; · iexact H2
    iintro H2
    iapply (store_owns c E M2 Xi)
    isplitl [H2]; · iexact H2
    iintro H2
    iapply (load_whole c E M3 bm)
    isplitl [H3]; · iexact H3
    iintro H3
    iapply (load_whole c E M3 bm)
    isplitl [H3]; · iexact H3
    iintro H3
    iapply (load_whole c E M3 bm)
    isplitl [H3]; · iexact H3
    iintro H3
    iapply (store_owns c E M3 bm)
    isplitl [H3]; · iexact H3
    iintro H3
    iapply (load_whole c E M2 bi)
    isplitl [H2]; · iexact H2
    iintro H2
    iapply (load_whole c E M2 bi)
    isplitl [H2]; · iexact H2
    iintro H2
    iapply (store_owns c E M2 bi)
    isplitl [H2]; · iexact H2
    iintro H2
    iapply Idealize.SL.Sem.le_wp_ret
    iapply Hk
    isplitl [H2] <;> iassumption
  · iintro ⟨H2, H3, Hk⟩
    iapply (load_whole c E M3 Xv)
    isplitl [H3]; · iexact H3
    iintro H3
    iapply (store_owns c E M3 Xv)
    isplitl [H3]; · iexact H3
    iintro H3
    iapply (load_whole c E M2 Xi)
    isplitl [H2]; · iexact H2
    iintro H2
    iapply (store_owns c E M2 Xi)
    isplitl [H2]; · iexact H2
    iintro H2
    iapply Idealize.SL.Sem.le_wp_ret
    iapply Hk
    isplitl [H2] <;> iassumption
  · iintro ⟨H2, H3, Hk⟩
    iapply (load_whole c E M3 Xv)
    isplitl [H3]; · iexact H3
    iintro H3
    iapply (load_whole c E M3 Xv)
    isplitl [H3]; · iexact H3
    iintro H3
    iapply (load_whole c E M3 Xv)
    isplitl [H3]; · iexact H3
    iintro H3
    iapply (store_owns c E M3 Xv)
    isplitl [H3]; · iexact H3
    iintro H3
    iapply (load_whole c E M2 Xi)
    isplitl [H2]; · iexact H2
    iintro H2
    iapply (load_whole c E M2 Xi)
    isplitl [H2]; · iexact H2
    iintro H2
    iapply (store_owns c E M2 Xi)
    isplitl [H2]; · iexact H2
    iintro H2
    iapply Idealize.SL.Sem.le_wp_ret
    iapply Hk
    isplitl [H2] <;> iassumption
  · iintro ⟨H2, H3, Hk⟩
    iapply Idealize.SL.Sem.le_wp_ret
    iapply Hk
    isplitl [H2] <;> iassumption

/-- The first body's two results: the block's choice, joined with what the result blocks held. -/
def mainV [Facts] (i : grid0.Coords) (X : Vec F S64x24576 .f32) (p : FVec F S64x1 .f32 × IVec S64x1 32) : FVec F S64x1 .f32 × IVec S64x1 32 :=
  joinV (k0_cond2 i) (scanV X (Scalar.muli (BitVec.ofNat 32 (i 0).val) 24576#32) 23 (by decide)).1
    (scanV X (Scalar.muli (BitVec.ofNat 32 (i 0).val) 24576#32) 23 (by decide)).2
    (setV (k0_cond1 i) (scanV X (Scalar.muli (BitVec.ofNat 32 (i 0).val) 24576#32) 23 (by decide)).1
      (scanV X (Scalar.muli (BitVec.ofNat 32 (i 0).val) 24576#32) 23 (by decide)).2 p)

/-- The second body's two results: the masked tile's choice, joined with what the result blocks held. -/
def tailV [Facts] (i : grid1.Coords) (X : Vec F S64x1024 .f32) (p : FVec F S64x1 .f32 × IVec S64x1 32) : FVec F S64x1 .f32 × IVec S64x1 32 :=
  joinV (k1_cond2 i) (maxV (maskedV X (tailCol i))) (argV (maskedV X (tailCol i)) (tailCol i))
    (setV (k1_cond1 i) (maxV (maskedV X (tailCol i))) (argV (maskedV X (tailCol i)) (tailCol i)) p)

/-- The tile loop followed by an update. -/
theorem main_run_gen [Facts] (c : Dev nD) (E : Set ℕ) (c1 c2 : BitVec 1) (base : BitVec 32) (n : Nat) (h : n < 24) (M1 : Memref sig .tc .vmem S64x24576 .f32)
    (M2 : Memref sig .tc .vmem S64x1 .i32) (M3 : Memref sig .tc .vmem S64x1 .f32) (X : Vec F S64x24576 .f32) (Xv : FVec F S64x1 .f32) (Xi : IVec S64x1 32)
    (Q : PUnit → sProp 𝕄) :
    iprop(owns (c : Thread nD τ) M1 fullShare X ∗ owns (c : Thread nD τ) M2 fullShare (Xi : Vec F S64x1 .i32)
        ∗ owns (c : Thread nD τ) M3 fullShare (Xv : Vec F S64x1 .f32)
        ∗ (iprop(owns (c : Thread nD τ) M1 fullShare X
            ∗ owns (c : Thread nD τ) M2 fullShare ((joinV c2 (scanV X base n h).1 (scanV X base n h).2 (setV c1 (scanV X base n h).1 (scanV X base n h).2 (Xv, Xi))).2 : Vec F S64x1 .i32)
            ∗ owns (c : Thread nD τ) M3 fullShare ((joinV c2 (scanV X base n h).1 (scanV X base n h).2 (setV c1 (scanV X base n h).1 (scanV X base n h).2 (Xv, Xi))).1 : Vec F S64x1 .f32)) -∗ Q ⟨⟩))
      ⊢ wp frame (wpE (defs₀ (F := F)) 𝒱₀ c none) E (do
          let p ← scanP M1 base n h
          updateP c1 c2 M2 M3 p.1 p.2) Q := by
  rw [wp_bind]
  iintro ⟨H1, H2, H3, Hk⟩
  iapply (scan_run c E M1 X base n h)
  isplitl [H1]; · iexact H1
  iintro H1
  iapply (update_run c E c1 c2 M2 M3 (scanV X base n h).1 (scanV X base n h).2 Xv Xi)
  isplitl [H2]; · iexact H2
  isplitl [H3]; · iexact H3
  iintro ⟨H2, H3⟩
  iapply Hk
  isplitl [H1]; · iexact H1
  isplitl [H2] <;> iassumption

attribute [local irreducible] scanV scanP in
/-- The first body, run. -/
theorem main_run [Facts] (c : Dev nD) (E : Set ℕ) (i : grid0.Coords) (M1 : Memref sig .tc .vmem S64x24576 .f32) (M2 : Memref sig .tc .vmem S64x1 .i32)
    (M3 : Memref sig .tc .vmem S64x1 .f32) (X : Vec F S64x24576 .f32) (p : FVec F S64x1 .f32 × IVec S64x1 32) (Q : PUnit → sProp 𝕄) :
    iprop(owns (c : Thread nD τ) M1 fullShare X ∗ owns (c : Thread nD τ) M2 fullShare (p.2 : Vec F S64x1 .i32)
        ∗ owns (c : Thread nD τ) M3 fullShare (p.1 : Vec F S64x1 .f32)
        ∗ (iprop(owns (c : Thread nD τ) M1 fullShare X ∗ owns (c : Thread nD τ) M2 fullShare ((mainV i X p).2 : Vec F S64x1 .i32)
            ∗ owns (c : Thread nD τ) M3 fullShare ((mainV i X p).1 : Vec F S64x1 .f32)) -∗ Q ⟨⟩))
      ⊢ wp frame (wpE (defs₀ (F := F)) 𝒱₀ c none) E (mainP i M1 M2 M3) Q := by
  obtain ⟨Xv, Xi⟩ := p
  unfold mainP mainV
  exact main_run_gen c E (k0_cond1 i) (k0_cond2 i) (Scalar.muli (BitVec.ofNat 32 (i 0).val) 24576#32) 23 (by decide) M1 M2 M3 X Xv Xi Q

/-- A load of a whole tile followed by an update, for any two values computed from the tile. -/
theorem tail_run_gen [Facts] (c : Dev nD) (E : Set ℕ) (c1 c2 : BitVec 1) (f : Vec F S64x1024 .f32 → FVec F S64x1 .f32) (g : Vec F S64x1024 .f32 → IVec S64x1 32)
    (M1 : Memref sig .tc .vmem S64x1024 .f32) (M2 : Memref sig .tc .vmem S64x1 .i32)
    (M3 : Memref sig .tc .vmem S64x1 .f32) (X : Vec F S64x1024 .f32) (Xv : FVec F S64x1 .f32) (Xi : IVec S64x1 32) (Q : PUnit → sProp 𝕄) :
    iprop(owns (c : Thread nD τ) M1 fullShare X ∗ owns (c : Thread nD τ) M2 fullShare (Xi : Vec F S64x1 .i32)
        ∗ owns (c : Thread nD τ) M3 fullShare (Xv : Vec F S64x1 .f32)
        ∗ (iprop(owns (c : Thread nD τ) M1 fullShare X
            ∗ owns (c : Thread nD τ) M2 fullShare ((joinV c2 (f X) (g X) (setV c1 (f X) (g X) (Xv, Xi))).2 : Vec F S64x1 .i32)
            ∗ owns (c : Thread nD τ) M3 fullShare ((joinV c2 (f X) (g X) (setV c1 (f X) (g X) (Xv, Xi))).1 : Vec F S64x1 .f32)) -∗ Q ⟨⟩))
      ⊢ wp frame (wpE (defs₀ (F := F)) 𝒱₀ c none) E (do
          let x : Vec F S64x1024 .f32 ← Prog.lift (.load M1 (Rect.unit (s := S64x1024) ![0, 0] S64x1024.size inb_S64x1024_S64x1024_0_0).toLoadRect (View.loadsAt_vmem h_S64x1024))
          updateP c1 c2 M2 M3 (f x) (g x)) Q := by
  simp only [Prog.lift, Prog.bind_op, Prog.bind_ret]
  iintro ⟨H1, H2, H3, Hk⟩
  iapply (load_whole c E M1 X)
  isplitl [H1]; · iexact H1
  iintro H1
  iapply (update_run c E c1 c2 M2 M3 (f X) (g X) Xv Xi)
  isplitl [H2]; · iexact H2
  isplitl [H3]; · iexact H3
  iintro ⟨H2, H3⟩
  iapply Hk
  isplitl [H1]; · iexact H1
  isplitl [H2] <;> iassumption

/-- The second body, run. -/
theorem tail_run [Facts] (c : Dev nD) (E : Set ℕ) (i : grid1.Coords) (M1 : Memref sig .tc .vmem S64x1024 .f32) (M2 : Memref sig .tc .vmem S64x1 .i32)
    (M3 : Memref sig .tc .vmem S64x1 .f32) (X : Vec F S64x1024 .f32) (p : FVec F S64x1 .f32 × IVec S64x1 32) (Q : PUnit → sProp 𝕄) :
    iprop(owns (c : Thread nD τ) M1 fullShare X ∗ owns (c : Thread nD τ) M2 fullShare (p.2 : Vec F S64x1 .i32)
        ∗ owns (c : Thread nD τ) M3 fullShare (p.1 : Vec F S64x1 .f32)
        ∗ (iprop(owns (c : Thread nD τ) M1 fullShare X ∗ owns (c : Thread nD τ) M2 fullShare ((tailV i X p).2 : Vec F S64x1 .i32)
            ∗ owns (c : Thread nD τ) M3 fullShare ((tailV i X p).1 : Vec F S64x1 .f32)) -∗ Q ⟨⟩))
      ⊢ wp frame (wpE (defs₀ (F := F)) 𝒱₀ c none) E (tailP i M1 M2 M3) Q := by
  obtain ⟨Xv, Xi⟩ := p
  unfold tailP tailV
  exact tail_run_gen c E (k1_cond1 i) (k1_cond2 i) (fun x => maxV (maskedV x (tailCol i))) (fun x => argV (maskedV x (tailCol i)) (tailCol i))
    M1 M2 M3 X Xv Xi Q

end Cert.KernelIdeal.Clean

end
-- ==== Proof.My.Data.lean ====
/-
  What the two calls leave in their buffers, point by point: the blocks they read, and the running pair of
  maximum and index after each grid point.
-/
module

public import proofs.«01_k».proof.Proof.My.Body
public import proofs.«01_k».proof.Proof.Gen.KernelIdeal.Points
public import proofs.«01_k».proof.Proof.Gen.KernelIdeal.Regions
public import Idealize.ShloMosaic.Lib.Pipeline.Frame

@[expose] public section

noncomputable section

namespace Cert.KernelIdeal.Clean

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- The pair of the two result blocks: values and indices. -/
abbrev Pair (F : FTy → Type) : Type := FVec F S64x1 .f32 × IVec S64x1 32

/-- A pair to start the recursions from; nothing reads it. -/
def zeroPair : Pair F := (fun _ => Scalar.ofBits .f32 0#32, fun _ => 0#32)

/-- At the first point the first call's results do not depend on what the blocks held. -/
theorem mainV_first (i : grid0.Coords) (h : k0_cond1 i = 1#1) (X : Vec F S64x24576 .f32) (p p' : Pair F) : mainV i X p = mainV i X p' := by
  unfold mainV setV
  rw [if_pos h, if_pos h]

/-- At the first point the second call's results do not depend on what the blocks held. -/
theorem tailV_first (i : grid1.Coords) (h : k1_cond1 i = 1#1) (X : Vec F S64x1024 .f32) (p p' : Pair F) : tailV i X p = tailV i X p' := by
  unfold tailV setV
  rw [if_pos h, if_pos h]

variable (A : (c : Dev nD) → Buf (Elt F) ((c : Thread nD τ).loc main_arg0))

/-- The part of the input the first call's block at point `t` covers. -/
def blk0 (c : Dev nD) (t : Fin cfg0.N) : (win0_0.xblock (grid0.coords t)).Idx → Elt F .f32 :=
  (win0_0.blk t).view.read (Elt F) (A c)

/-- The first call's input block at point `t`. -/
def X0 (c : Dev nD) (t : Fin cfg0.N) : Vec F S64x24576 .f32 :=
  win0_0.fill (grid0.coords t) (fun _ => Scalar.ofBits .f32 0#32) (blk0 A c t)

/-- The part of the input the second call's block at point `t` covers. -/
def blk1 (c : Dev nD) (t : Fin cfg1.N) : (win1_0.xblock (grid1.coords t)).Idx → Elt F .f32 :=
  (win1_0.blk t).view.read (Elt F) (A c)

/-- The second call's input block at point `t`, zero past the array's last column. -/
def X1 (c : Dev nD) (t : Fin cfg1.N) : Vec F S64x1024 .f32 :=
  win1_0.fill (grid1.coords t) (fun _ => Scalar.ofBits .f32 0#32) (blk1 A c t)

/-- The pair after the first call's points `0, …, n`. -/
def acc0 (c : Dev nD) : (n : ℕ) → n < cfg0.N → Pair F
  | 0, h => mainV (grid0.coords ⟨0, h⟩) (X0 A c ⟨0, h⟩) zeroPair
  | n + 1, h => mainV (grid0.coords ⟨n + 1, h⟩) (X0 A c ⟨n + 1, h⟩) (acc0 c n (Nat.lt_of_succ_lt h))

/-- The pair after the second call's points `0, …, n`. -/
def acc1 (c : Dev nD) : (n : ℕ) → n < cfg1.N → Pair F
  | 0, h => tailV (grid1.coords ⟨0, h⟩) (X1 A c ⟨0, h⟩) zeroPair
  | n + 1, h => tailV (grid1.coords ⟨n + 1, h⟩) (X1 A c ⟨n + 1, h⟩) (acc1 c n (Nat.lt_of_succ_lt h))

/-! ## The blocks -/

/-- No block of the first call overhangs the array. -/
theorem clip0 : ∀ (i : grid0.Coords) a, win0_0.clip i a = none := by
  decide +kernel

/-- So the block fetched does not depend on what the buffer held. -/
theorem fill0 (c : Dev nD) (t : Fin cfg0.N) (d) : win0_0.fill (grid0.coords t) d (blk0 A c t) = X0 A c t :=
  Pipeline.fill_of_clip_none (cfg := cfg0) (0 : Fin 3) (grid0.coords t) (clip0 _) d _ _

/-- How many rows and columns of the second call's block lie inside the array. -/
theorem xsize1 : ∀ (t : Fin cfg1.N) (a : Fin 2), win1_0.xsize (grid1.coords t) a = ![64, if t.val = 16 then 576 else 1024] a := by
  decide +kernel

/-- The second call's starting column at its last point. -/
theorem tailCol_last : ∀ t : Fin cfg1.N, t.val = 16 → tailCol (grid1.coords t) = 999424#32 := by
  decide +kernel

/-- The columns from 576 on of the last block lie past the array's last column. -/
theorem lane_past : ∀ n : Fin 1024, 576 ≤ n.val → Scalar.cmpi .slt (BitVec.ofNat 32 n.val + 999424#32) 1000000#32 = 0#1 := by
  decide +kernel

/-- The masked scores do not depend on what the buffer held past the array's last column. -/
theorem masked_fill (t : Fin cfg1.N) (d d' : S64x1024.Idx → Elt F .f32) (g : (win1_0.xblock (grid1.coords t)).Idx → Elt F .f32) :
    maskedV (F := F) (win1_0.fill (grid1.coords t) d g) (tailCol (grid1.coords t)) = maskedV (win1_0.fill (grid1.coords t) d' g) (tailCol (grid1.coords t)) := by
  funext j
  by_cases hm : win1_0.moved (grid1.coords t) j = true
  · have hx : win1_0.fill (grid1.coords t) d g j = win1_0.fill (grid1.coords t) d' g j := by
      unfold Window.fill; rw [dif_pos hm, dif_pos hm]
    unfold maskedV scoreV select addf
    simp only [hx]
  · have hj : t.val = 16 ∧ 576 ≤ (j 1).val := by
      have h := mt ((win1_0.moved_iff (grid1.coords t) j).mpr) hm
      have h0 : (j 0).val < 64 := (j 0).isLt
      have h1 : (j 1).val < 1024 := (j 1).isLt
      by_contra hn
      refine h fun a => ?_
      rw [show win1_0.xsize (grid1.coords t) a = ![64, if t.val = 16 then 576 else 1024] a from xsize1 t a]
      match a with
      | ⟨0, _⟩ => exact h0
      | ⟨1, _⟩ =>
        show (j 1).val < if t.val = 16 then 576 else 1024
        split <;> omega
    have hc : cmpi .slt (addi laneV (broadcast S64x1024 (tailCol (grid1.coords t)))) (broadcast S64x1024 1000000#32) j = 0#1 := by
      rw [tailCol_last t hj.1]
      unfold cmpi addi laneV iota broadcast
      simp only [List.foldl_cons, List.foldl_nil, Nat.zero_mul, Nat.zero_add]
      exact lane_past ⟨(j 1).val, (j 1).isLt⟩ hj.2
    unfold maskedV select Scalar.select
    rw [hc, if_neg (by decide), if_neg (by decide)]

end Cert.KernelIdeal.Clean

end
-- ==== Proof.My.MainEq.lean ====
/-
  The first call's printed body is the compact body of `Clean.lean`.
-/
module

public import proofs.«01_k».proof.Proof.My.Clean

@[expose] public section

noncomputable section

namespace Cert.KernelIdeal.Clean

open Idealize.ShloMosaic Idealize.SL.Sem Cert.KernelIdeal Cert.KernelIdeal.Gen

variable {F : FTy → Type} [FloatOps F]

/-- The printed first body up to its last store: the block's maximum and its column. -/
def scanPrinted [Facts] (i : grid0.Coords) (arg1 : Memref sig .tc .vmem S64x24576 .f32) (harg1 : arg1.IsWhole)
    (arg2 : Memref sig .tc .vmem S64x1 .i32) (harg2 : arg2.IsWhole) (arg3 : Memref sig .tc .vmem S64x1 .f32) (harg3 : arg3.IsWhole) :
    Prog (TpuEff nD τ sig (Elt F) Λ₀ .tc) (FVec F S64x1 .f32 × IVec S64x1 32) := do
  let ⟨_, v0, a, b, c, d, e, f, g, h, j⟩ ← k0_part106 (F := F) i arg1 harg1 arg2 harg2 arg3 harg3
  let ⟨a, b, c, d, e, f⟩ ← k0_part107 (F := F) i arg1 harg1 arg2 harg2 arg3 harg3 v0 a b c d e f g h j
  pure (k0_pay4 a c f, k0_pay5 a b c d e f)

/-- The printed first body is its tiles' scan and the update. -/
theorem printed_eq [Facts] (i : grid0.Coords) (arg1 : Memref sig .tc .vmem S64x24576 .f32) (harg1 : arg1.IsWhole)
    (arg2 : Memref sig .tc .vmem S64x1 .i32) (harg2 : arg2.IsWhole) (arg3 : Memref sig .tc .vmem S64x1 .f32) (harg3 : arg3.IsWhole) :
    cc0__main_kernel (F := F) i arg1 harg1 arg2 harg2 arg3 harg3
      = scanPrinted i arg1 harg1 arg2 harg2 arg3 harg3 >>= fun p => updateP (k0_cond1 i) (k0_cond2 i) arg2 arg3 p.1 p.2 := by
  rw [cc0__main_kernel_eq_skeleton]
  unfold cc0__main_kernel_skel scanPrinted
  rw [bind_assoc]
  refine congrArg _ (funext fun x => ?_)
  obtain ⟨x1, x2, x3, x4, x5, x6, x7, x8, x9, x10, x11⟩ := x
  simp only
  rw [bind_assoc]
  refine congrArg _ (funext fun y => ?_)
  obtain ⟨y1, y2, y3, y4, y5, y6⟩ := y
  rfl

set_option maxRecDepth 65536 in
set_option maxHeartbeats 0 in
/-- The printed scan, flat. -/
theorem scan_flat [Facts] (i : grid0.Coords) (arg1 : Memref sig .tc .vmem S64x24576 .f32) (harg1 : arg1.IsWhole)
    (arg2 : Memref sig .tc .vmem S64x1 .i32) (harg2 : arg2.IsWhole) (arg3 : Memref sig .tc .vmem S64x1 .f32) (harg3 : arg3.IsWhole) :
    scanPrinted (F := F) i arg1 harg1 arg2 harg2 arg3 harg3
      = scanP arg1 (Scalar.muli (BitVec.ofNat 32 (i 0).val) 24576#32) 23 (by decide) := by
  unfold scanPrinted
  simp -implicitDefEqProofs only [k0_part1_eq_skeleton, k0_part2_eq_skeleton, k0_part3_eq_skeleton,
    k0_part4_eq_skeleton, k0_part5_eq_skeleton, k0_part6_eq_skeleton, k0_part7_eq_skeleton,
    k0_part8_eq_skeleton, k0_part9_eq_skeleton, k0_part10_eq_skeleton, k0_part11_eq_skeleton,
    k0_part12_eq_skeleton, k0_part13_eq_skeleton, k0_part14_eq_skeleton, k0_part15_eq_skeleton,
    k0_part16_eq_skeleton, k0_part17_eq_skeleton, k0_part18_eq_skeleton, k0_part19_eq_skeleton,
    k0_part20_eq_skeleton, k0_part21_eq_skeleton, k0_part22_eq_skeleton, k0_part23_eq_skeleton,
    k0_part24_eq_skeleton, k0_part25_eq_skeleton, k0_part26_eq_skeleton, k0_part27_eq_skeleton,
    k0_part28_eq_skeleton, k0_part29_eq_skeleton, k0_part30_eq_skeleton, k0_part31_eq_skeleton,
    k0_part32_eq_skeleton, k0_part33_eq_skeleton, k0_part34_eq_skeleton, k0_part35_eq_skeleton,
    k0_part36_eq_skeleton, k0_part37_eq_skeleton, k0_part38_eq_skeleton, k0_part39_eq_skeleton,
    k0_part40_eq_skeleton, k0_part41_eq_skeleton, k0_part42_eq_skeleton, k0_part43_eq_skeleton,
    k0_part44_eq_skeleton, k0_part45_eq_skeleton, k0_part46_eq_skeleton, k0_part47_eq_skeleton,
    k0_part48_eq_skeleton, k0_part49_eq_skeleton, k0_part50_eq_skeleton, k0_part51_eq_skeleton,
    k0_part52_eq_skeleton, k0_part53_eq_skeleton, k0_part54_eq_skeleton, k0_part55_eq_skeleton,
    k0_part56_eq_skeleton, k0_part57_eq_skeleton, k0_part58_eq_skeleton, k0_part59_eq_skeleton,
    k0_part60_eq_skeleton, k0_part61_eq_skeleton, k0_part62_eq_skeleton, k0_part63_eq_skeleton,
    k0_part64_eq_skeleton, k0_part65_eq_skeleton, k0_part66_eq_skeleton, k0_part67_eq_skeleton,
    k0_part68_eq_skeleton, k0_part69_eq_skeleton, k0_part70_eq_skeleton, k0_part71_eq_skeleton,
    k0_part72_eq_skeleton, k0_part73_eq_skeleton, k0_part74_eq_skeleton, k0_part75_eq_skeleton,
    k0_part76_eq_skeleton, k0_part77_eq_skeleton, k0_part78_eq_skeleton, k0_part79_eq_skeleton,
    k0_part80_eq_skeleton, k0_part81_eq_skeleton, k0_part82_eq_skeleton, k0_part83_eq_skeleton,
    k0_part84_eq_skeleton, k0_part85_eq_skeleton, k0_part86_eq_skeleton, k0_part87_eq_skeleton,
    k0_part88_eq_skeleton, k0_part89_eq_skeleton, k0_part90_eq_skeleton, k0_part91_eq_skeleton,
    k0_part92_eq_skeleton, k0_part93_eq_skeleton, k0_part94_eq_skeleton, k0_part95_eq_skeleton,
    k0_part96_eq_skeleton, k0_part97_eq_skeleton, k0_part98_eq_skeleton, k0_part99_eq_skeleton,
    k0_part100_eq_skeleton, k0_part101_eq_skeleton, k0_part102_eq_skeleton, k0_part103_eq_skeleton,
    k0_part104_eq_skeleton, k0_part105_eq_skeleton, k0_part106_eq_skeleton, k0_part107_eq_skeleton,
    k0_part1_skel, k0_part2_skel, k0_part3_skel, k0_part4_skel, k0_part5_skel, k0_part6_skel, k0_part7_skel,
    k0_part8_skel, k0_part9_skel, k0_part10_skel, k0_part11_skel, k0_part12_skel, k0_part13_skel,
    k0_part14_skel, k0_part15_skel, k0_part16_skel, k0_part17_skel, k0_part18_skel, k0_part19_skel,
    k0_part20_skel, k0_part21_skel, k0_part22_skel, k0_part23_skel, k0_part24_skel, k0_part25_skel,
    k0_part26_skel, k0_part27_skel, k0_part28_skel, k0_part29_skel, k0_part30_skel, k0_part31_skel,
    k0_part32_skel, k0_part33_skel, k0_part34_skel, k0_part35_skel, k0_part36_skel, k0_part37_skel,
    k0_part38_skel, k0_part39_skel, k0_part40_skel, k0_part41_skel, k0_part42_skel, k0_part43_skel,
    k0_part44_skel, k0_part45_skel, k0_part46_skel, k0_part47_skel, k0_part48_skel, k0_part49_skel,
    k0_part50_skel, k0_part51_skel, k0_part52_skel, k0_part53_skel, k0_part54_skel, k0_part55_skel,
    k0_part56_skel, k0_part57_skel, k0_part58_skel, k0_part59_skel, k0_part60_skel, k0_part61_skel,
    k0_part62_skel, k0_part63_skel, k0_part64_skel, k0_part65_skel, k0_part66_skel, k0_part67_skel,
    k0_part68_skel, k0_part69_skel, k0_part70_skel, k0_part71_skel, k0_part72_skel, k0_part73_skel,
    k0_part74_skel, k0_part75_skel, k0_part76_skel, k0_part77_skel, k0_part78_skel, k0_part79_skel,
    k0_part80_skel, k0_part81_skel, k0_part82_skel, k0_part83_skel, k0_part84_skel, k0_part85_skel,
    k0_part86_skel, k0_part87_skel, k0_part88_skel, k0_part89_skel, k0_part90_skel, k0_part91_skel,
    k0_part92_skel, k0_part93_skel, k0_part94_skel, k0_part95_skel, k0_part96_skel, k0_part97_skel,
    k0_part98_skel, k0_part99_skel, k0_part100_skel, k0_part101_skel, k0_part102_skel, k0_part103_skel,
    k0_part104_skel, k0_part105_skel, k0_part106_skel, k0_part107_skel, Prog.lift, Prog.bind_op,
    Prog.bind_ret, pure_bind, bind_assoc, Prog.bind_lift]
  simp -implicitDefEqProofs only [scanP, Prog.lift, Prog.bind_op, Prog.bind_ret, pure_bind, bind_assoc]
  iterate 24 refine congrArg (Prog.op _) (funext fun x => ?_)
  rfl

/-- The printed first body is the compact one. -/
theorem main_eq [Facts] (i : grid0.Coords) (arg1 : Memref sig .tc .vmem S64x24576 .f32) (harg1 : arg1.IsWhole)
    (arg2 : Memref sig .tc .vmem S64x1 .i32) (harg2 : arg2.IsWhole) (arg3 : Memref sig .tc .vmem S64x1 .f32) (harg3 : arg3.IsWhole) :
    cc0__main_kernel (F := F) i arg1 harg1 arg2 harg2 arg3 harg3 = mainP (F := F) i arg1 arg2 arg3 :=  by
  rw [printed_eq, scan_flat]
  rfl

end Cert.KernelIdeal.Clean

end
-- ==== Proof.My.Region.lean ====
/-
  The two calls as regions of the program: their proof data, the obligation of each body, and the record that takes
  the program's buffers from before a call to after it.
-/
module

public import proofs.«01_k».proof.Proof.My.Data
public import proofs.«01_k».proof.Proof.My.MainEq
public import Idealize.ShloMosaic.Lib.Pipeline.RegionsLoop

@[expose] public section

noncomputable section

namespace Cert.KernelIdeal.Clean

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- A valuation of the buffers of every core. -/
abbrev Vals (F : FTy → Type) : Type := (c : Dev nD) → Valuation τ sig (Elt F)

variable (V : Vals F)

/-- The input as a valuation holds it. -/
abbrev inp (c : Dev nD) : Buf (Elt F) ((c : Thread nD τ).loc main_arg0) := V c main_arg0

/-! ## The first call -/

/-- The first call's proof data, entered from the valuation `V`: after each point the input's buffer holds its block
    and the two result buffers the running pair. -/
def dat0 (c : Dev nD) : Dat τ (Elt F) Unit ℕ (UR sig nD τ) ℕ cfg0 c where
  A w := V c (Pipeline.arrRef spec0 w)
  after w t := match w with
    | ⟨0, _⟩ => X0 (inp V) c t
    | ⟨1, _⟩ => (acc0 (inp V) c t.val t.isLt).2
    | ⟨2, _⟩ => (acc0 (inp V) c t.val t.isLt).1
  Φ _ := Pipeline.scopedRest (Ix := Unit) (Name := ℕ) (U := UR sig nD τ) (Lvl := ℕ) (Val := Elt F) spec0 c
  q _ := fullShare
  owed _ := 0

/-- No window is idle in the first call. -/
theorem live0 : ∀ (w : Fin 3) (i : grid0.Coords), idle0 w i = false := by decide +kernel

/-- The input's buffer holds its block when the body runs. -/
theorem before0_0 (c : Dev nD) (t : Fin cfg0.N) (d) : (dat0 V c).before (0 : Fin 3) t d = X0 (inp V) c t := by
  unfold Dat.before
  rw [if_pos (fetch0_0 t)]
  exact fill0 (inp V) c t d

/-- After the first point the index buffer holds what the point before left. -/
theorem before0_1 (c : Dev nD) (n : ℕ) (h : n + 1 < cfg0.N) (d) :
    (dat0 V c).before (1 : Fin 3) ⟨n + 1, h⟩ d = (acc0 (inp V) c n (Nat.lt_of_succ_lt h)).2 := by
  refine (dat0 V c).before_out_kept (1 : Fin 3) rfl ⟨n + 1, h⟩ (Nat.succ_ne_zero n) ?_ (live0 1) (fun _ _ => rfl) d
  refine Bool.eq_false_iff.mpr fun hf => ?_
  have h1 := (flush0_1 _).mp hf
  have h2 : n + 1 < 40 := h
  simp only [Nat.add_sub_cancel] at h1
  omega

/-- After the first point the value buffer holds what the point before left. -/
theorem before0_2 (c : Dev nD) (n : ℕ) (h : n + 1 < cfg0.N) (d) :
    (dat0 V c).before (2 : Fin 3) ⟨n + 1, h⟩ d = (acc0 (inp V) c n (Nat.lt_of_succ_lt h)).1 := by
  refine (dat0 V c).before_out_kept (2 : Fin 3) rfl ⟨n + 1, h⟩ (Nat.succ_ne_zero n) ?_ (live0 2) (fun _ _ => rfl) d
  refine Bool.eq_false_iff.mpr fun hf => ?_
  have h1 := (flush0_2 _).mp hf
  have h2 : n + 1 < 40 := h
  simp only [Nat.add_sub_cancel] at h1
  omega

/-- The first point is where the result blocks are set. -/
theorem first0 : ∀ t : Fin cfg0.N, t.val = 0 → k0_cond1 (grid0.coords t) = 1#1 := by decide +kernel

/-- The point's running pair from what its buffers held. -/
theorem acc0_step (c : Dev nD) (t : Fin cfg0.N) (d1 d2) :
    mainV (grid0.coords t) (X0 (inp V) c t) ((dat0 V c).before (2 : Fin 3) t d2, (dat0 V c).before (1 : Fin 3) t d1) = acc0 (inp V) c t.val t.isLt := by
  obtain ⟨n, h⟩ := t
  cases n with
  | zero => exact mainV_first _ (first0 ⟨0, h⟩ rfl) _ _ _
  | succ n => rw [before0_1, before0_2]; rfl

/-- What the first call runs at a point. -/
theorem call0 (t : Fin cfg0.N) : defs₀ (F := F) .tc cfg0.body (cfg0.bodyArgs t (cfg0.slots t))
    = mainP (grid0.coords t) (win0_0.stage (cfg0.slots t 0)) (win0_1.stage (cfg0.slots t 1)) (win0_2.stage (cfg0.slots t 2)) :=
  Eq.trans (b := cc0__main_kernel (grid0.coords t) (win0_0.stage (cfg0.slots t 0)) (Facts₀.hstage0_0 ((cfg0.slots t 0).cast Facts₀.nbuf0_0))
    (win0_1.stage (cfg0.slots t 1)) (Facts₀.hstage0_1 ((cfg0.slots t 1).cast Facts₀.nbuf0_1)) (win0_2.stage (cfg0.slots t 2))
    (Facts₀.hstage0_2 ((cfg0.slots t 2).cast Facts₀.nbuf0_2))) rfl (main_eq _ _ _ _ _ _ _)

attribute [local irreducible] mainP mainV scanV scanP acc0 X0 in
/-- The first call's body at every point. -/
theorem body0 (c : Dev nD) : BodyObligationLoose (dat0 V c) (defs₀ (F := F)) 𝒱₀ () Set.univ := fun t => by
  rw [bigSep_W0, bigSep_W0]
  simp only [live0]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩⟩
  rw [before0_0 V c t d0]
  rw [call0 t]
  iapply (main_run (F := F) c Set.univ (grid0.coords t) (win0_0.stage (cfg0.slots t 0)) (win0_1.stage (cfg0.slots t 1))
    (win0_2.stage (cfg0.slots t 2)) (X0 (inp V) c t) ((dat0 V c).before (2 : Fin 3) t d2, (dat0 V c).before (1 : Fin 3) t d1) _)
  rw [acc0_step V c t d1 d2]
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists X0 (inp V) c t
    change _ ⊢ owns (c : Thread nD τ) (win0_0.stage (cfg0.slots t 0)) fullShare (win0_0.fill (grid0.coords t) (X0 (inp V) c t) (win0_0.cut (grid0.coords t) (X0 (inp V) c t)))
    rw [win0_0.fill_cut]
  isplitl [H1]
  · rw [live0 1 (grid0.coords t)]; iexact H1
  · rw [live0 2 (grid0.coords t)]; iexact H2

/-! ## The second call -/

/-- The second call's proof data, entered from the valuation `V`: after each point the input's buffer holds its block
    where that lies inside the array, and the two result buffers the running pair. -/
def dat1 (c : Dev nD) : Dat τ (Elt F) Unit ℕ (UR sig nD τ) ℕ cfg1 c where
  A w := V c (Pipeline.arrRef spec1 w)
  after w t := match w with
    | ⟨0, _⟩ => X1 (inp V) c t
    | ⟨1, _⟩ => (acc1 (inp V) c t.val t.isLt).2
    | ⟨2, _⟩ => (acc1 (inp V) c t.val t.isLt).1
  Φ _ := Pipeline.scopedRest (Ix := Unit) (Name := ℕ) (U := UR sig nD τ) (Lvl := ℕ) (Val := Elt F) spec1 c
  q _ := fullShare
  owed _ := 0

/-- No window is idle in the second call. -/
theorem live1 : ∀ (w : Fin 3) (i : grid1.Coords), idle1 w i = false := by decide +kernel

/-- The input's buffer holds its block, and past the array's end anything, when the body runs. -/
theorem before1_0 (c : Dev nD) (t : Fin cfg1.N) (d) :
    (dat1 V c).before (0 : Fin 3) t d = win1_0.fill (grid1.coords t) d (blk1 (inp V) c t) := by
  unfold Dat.before
  rw [if_pos (fetch1_0 t)]
  rfl

/-- After the first point the index buffer holds what the point before left. -/
theorem before1_1 (c : Dev nD) (n : ℕ) (h : n + 1 < cfg1.N) (d) :
    (dat1 V c).before (1 : Fin 3) ⟨n + 1, h⟩ d = (acc1 (inp V) c n (Nat.lt_of_succ_lt h)).2 := by
  refine (dat1 V c).before_out_kept (1 : Fin 3) rfl ⟨n + 1, h⟩ (Nat.succ_ne_zero n) ?_ (live1 1) (fun _ _ => rfl) d
  refine Bool.eq_false_iff.mpr fun hf => ?_
  have h1 := (flush1_1 _).mp hf
  have h2 : n + 1 < 17 := h
  simp only [Nat.add_sub_cancel] at h1
  omega

/-- After the first point the value buffer holds what the point before left. -/
theorem before1_2 (c : Dev nD) (n : ℕ) (h : n + 1 < cfg1.N) (d) :
    (dat1 V c).before (2 : Fin 3) ⟨n + 1, h⟩ d = (acc1 (inp V) c n (Nat.lt_of_succ_lt h)).1 := by
  refine (dat1 V c).before_out_kept (2 : Fin 3) rfl ⟨n + 1, h⟩ (Nat.succ_ne_zero n) ?_ (live1 2) (fun _ _ => rfl) d
  refine Bool.eq_false_iff.mpr fun hf => ?_
  have h1 := (flush1_2 _).mp hf
  have h2 : n + 1 < 17 := h
  simp only [Nat.add_sub_cancel] at h1
  omega

/-- The first point is where the result blocks are set. -/
theorem first1 : ∀ t : Fin cfg1.N, t.val = 0 → k1_cond1 (grid1.coords t) = 1#1 := by decide +kernel

/-- The part of the block inside the array is the array's. -/
theorem X1_cut (c : Dev nD) (t : Fin cfg1.N) : win1_0.cut (grid1.coords t) (X1 (inp V) c t) = blk1 (inp V) c t :=
  win1_0.cut_fill _ _ _

/-- A point's pair depends on the block's masked scores only. -/
theorem tailV_congr (i : grid1.Coords) (X X' : Vec F S64x1024 .f32) (p : Pair F) (h : maskedV X (tailCol i) = maskedV X' (tailCol i)) :
    tailV i X p = tailV i X' p := by
  unfold tailV
  rw [h]

/-- A point's pair does not depend on what the input's buffer held past the array's end. -/
theorem tailV_fill (c : Dev nD) (t : Fin cfg1.N) (d) (p : Pair F) :
    tailV (grid1.coords t) (win1_0.fill (grid1.coords t) d (blk1 (inp V) c t)) p = tailV (grid1.coords t) (X1 (inp V) c t) p :=
  tailV_congr _ _ _ p (masked_fill t d _ _)

/-- The point's running pair from what its buffers held. -/
theorem acc1_step (c : Dev nD) (t : Fin cfg1.N) (d0 d1 d2) :
    tailV (grid1.coords t) (win1_0.fill (grid1.coords t) d0 (blk1 (inp V) c t))
      ((dat1 V c).before (2 : Fin 3) t d2, (dat1 V c).before (1 : Fin 3) t d1) = acc1 (inp V) c t.val t.isLt := by
  rw [tailV_fill]
  obtain ⟨n, h⟩ := t
  cases n with
  | zero => exact tailV_first _ (first1 ⟨0, h⟩ rfl) _ _ _
  | succ n => rw [before1_1, before1_2]; rfl

/-- What the second call runs at a point. -/
theorem call1 (t : Fin cfg1.N) : defs₀ (F := F) .tc cfg1.body (cfg1.bodyArgs t (cfg1.slots t))
    = tailP (grid1.coords t) (win1_0.stage (cfg1.slots t 0)) (win1_1.stage (cfg1.slots t 1)) (win1_2.stage (cfg1.slots t 2)) :=
  Eq.trans (b := bodyAt1 t) rfl (tail_eq _ _ _ _ _ _ _)

attribute [local irreducible] tailP tailV acc1 X1 in
/-- The second call's body at every point. -/
theorem body1 (c : Dev nD) : BodyObligationLoose (dat1 V c) (defs₀ (F := F)) 𝒱₀ () Set.univ := fun t => by
  rw [bigSep_W1, bigSep_W1]
  simp only [live1]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  rw [before1_0 V c t d0]
  rw [call1 t]
  iapply (tail_run (F := F) c Set.univ (grid1.coords t) (win1_0.stage (cfg1.slots t 0)) (win1_1.stage (cfg1.slots t 1))
    (win1_2.stage (cfg1.slots t 2)) (win1_0.fill (grid1.coords t) d0 (blk1 (inp V) c t))
    ((dat1 V c).before (2 : Fin 3) t d2, (dat1 V c).before (1 : Fin 3) t d1) _)
  rw [acc1_step V c t d0 d1 d2]
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists d0
    change _ ⊢ owns (c : Thread nD τ) (win1_0.stage (cfg1.slots t 0)) fullShare (win1_0.fill (grid1.coords t) d0 (win1_0.cut (grid1.coords t) (X1 (inp V) c t)))
    rw [show win1_0.cut (grid1.coords t) (X1 (inp V) c t) = blk1 (inp V) c t from X1_cut V c t]
  isplitl [H1]
  · rw [live1 1 (grid1.coords t)]; iexact H1
  · rw [live1 2 (grid1.coords t)]; iexact H2

/-! ## The valuations between the program's steps -/

/-- The buffers after the first call. -/
def after0 : Vals F := fun c => Function.update (Function.update (V c) main_call0_v0_0 ((dat0 V c).arrAt (1 : Fin 3) cfg0.N))
  main_call0_v0_1 ((dat0 V c).arrAt (2 : Fin 3) cfg0.N)

/-- The buffers after the second call. -/
def after1 : Vals F := fun c => Function.update (Function.update (V c) main_call0_v1_0 ((dat1 V c).arrAt (1 : Fin 3) cfg1.N))
  main_call0_v1_1 ((dat1 V c).arrAt (2 : Fin 3) cfg1.N)

theorem after0_idx (c : Dev nD) : after0 V c main_call0_v0_0 = (dat0 V c).arrAt (1 : Fin 3) cfg0.N := by
  unfold after0
  rw [Function.update_of_ne (StableHlo.devRef_ne_of_ne (by decide)), Function.update_self]

theorem after0_val (c : Dev nD) : after0 V c main_call0_v0_1 = (dat0 V c).arrAt (2 : Fin 3) cfg0.N := by
  unfold after0
  rw [Function.update_self]

theorem after0_of (c : Dev nD) (r : Ref sig .tc) (h0 : r ≠ main_call0_v0_0) (h1 : r ≠ main_call0_v0_1) : after0 V c r = V c r := by
  unfold after0
  rw [Function.update_of_ne (StableHlo.devRef_ne_of_ne h1), Function.update_of_ne (StableHlo.devRef_ne_of_ne h0)]

theorem after1_idx (c : Dev nD) : after1 V c main_call0_v1_0 = (dat1 V c).arrAt (1 : Fin 3) cfg1.N := by
  unfold after1
  rw [Function.update_of_ne (StableHlo.devRef_ne_of_ne (by decide)), Function.update_self]

theorem after1_val (c : Dev nD) : after1 V c main_call0_v1_1 = (dat1 V c).arrAt (2 : Fin 3) cfg1.N := by
  unfold after1
  rw [Function.update_self]

theorem after1_of (c : Dev nD) (r : Ref sig .tc) (h0 : r ≠ main_call0_v1_0) (h1 : r ≠ main_call0_v1_1) : after1 V c r = V c r := by
  unfold after1
  rw [Function.update_of_ne (StableHlo.devRef_ne_of_ne h1), Function.update_of_ne (StableHlo.devRef_ne_of_ne h0)]

/-! ## The regions -/

/-- No core owes another anything: no level is assigned. -/
abbrev L₀ : GSem nD τ sig → Finset Unit := fun _ => ∅
abbrev lv₀ : GSem nD τ sig → Unit → ℕ := fun _ _ => 0

/-- The proof data of both calls. -/
def pdats : (p : Fin 2) → (c : Dev nD) → Dat τ (Elt F) Unit ℕ (UR sig nD τ) ℕ (cfgs p) c
  | ⟨0, _⟩ => fun c => dat0 V c
  | ⟨1, _⟩ => fun c => dat1 (after0 V) c

/-- What rides along between the steps: nothing owed. -/
abbrev Rest (c : Dev nD) : sProp 𝕄 := iprop(∃ W, owes (c : Thread nD τ) (0 : CellTallies nD τ sig Unit) W)

set_option backward.isDefEq.respectTransparency.types false in
/-- The first call takes the buffers from `V` to `after0 V`. -/
def reg0 : Pipeline.RegionSeg (pcfgs (F := F)) adm (pdats V) () defs₀ 𝒱₀ L₀ lv₀ 0 where
  win := launch0.win.to₀
  block_pos := launch0.block_pos
  stage_whole := launch0.stage_whole
  K := PEmpty
  osem k := k.elim
  ho := Pipeline.OwnSemFacts.none _
  hbody c := body0 V c
  hwaits := Pipeline.hwaits_of_owed_zero _ _ _ _ L₀ lv₀ 0 fun _ _ => rfl
  pre c := iprop(StableHlo.held (c : Thread nD τ) (Pipeline.ucRefs τ sig) (V c) ∗ Rest c)
  post c := iprop(StableHlo.held (c : Thread nD τ) (Pipeline.ucRefs τ sig) (after0 V c) ∗ Rest c)
  X _ := BI.emp
  Y _ := BI.emp
  Z c := Pipeline.unscopedRest (Ix := Unit) (Name := ℕ) (U := UR sig nD τ) (Lvl := ℕ) spec0 c (fun b => V c b)
  hentry c := by
    rw [Pipeline.ownSems0_none, ← Pipeline.unscopedBufs_held (Ix := Unit) (Name := ℕ) (U := UR sig nD τ) (Lvl := ℕ) c (V c)]
    have hsplit := Pipeline.arrays_of_unscopedBufs (p := 0) (pcfgs (F := F)) adm (pdats V) launch0.win launch0.arr_whole c
      ((pdats V 0 c).share_full fun _ => rfl) (fun b => V c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (pdats V 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [← Pipeline.unscopedBufs_held (Ix := Unit) (Name := ℕ) (U := UR sig nD τ) (Lvl := ℕ) c (after0 V c)]
    have hjoin := Pipeline.unscopedBufs_of_arrays (p := 0) (pcfgs (F := F)) adm (Ix := Unit) (Name := ℕ) (U := UR sig nD τ) (Lvl := ℕ) launch0.win launch0.arr_whole c
      (pdats V) ((pdats V 0 c).share_full fun _ => rfl) (fun b => V c b) (fun b => after0 V c b) ((pdats V 0 c).arrAt · cfg0.N)
      (fun w => by
        fin_cases w
        · exact ((pdats V 0 c).arrAt_in 0 rfl _).trans (after0_of V c main_arg0 (by decide) (by decide)).symm
        · exact (after0_idx V c).symm
        · exact (after0_val V c).symm)
      (fun b hb => after0_of V c b (fun h => hb (h ▸ Finset.mem_image.mpr ⟨1, Finset.mem_univ _, rfl⟩))
        (fun h => hb (h ▸ Finset.mem_image.mpr ⟨2, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The second call takes the buffers from `after0 V` to `after1 (after0 V)`. -/
def reg1 : Pipeline.RegionSeg (pcfgs (F := F)) adm (pdats V) () defs₀ 𝒱₀ L₀ lv₀ 1 where
  win := launch1.win.to₀
  block_pos := launch1.block_pos
  stage_whole := launch1.stage_whole
  K := PEmpty
  osem k := k.elim
  ho := Pipeline.OwnSemFacts.none _
  hbody c := body1 (after0 V) c
  hwaits := Pipeline.hwaits_of_owed_zero _ _ _ _ L₀ lv₀ 1 fun _ _ => rfl
  pre c := iprop(StableHlo.held (c : Thread nD τ) (Pipeline.ucRefs τ sig) (after0 V c) ∗ Rest c)
  post c := iprop(StableHlo.held (c : Thread nD τ) (Pipeline.ucRefs τ sig) (after1 (after0 V) c) ∗ Rest c)
  X _ := BI.emp
  Y _ := BI.emp
  Z c := Pipeline.unscopedRest (Ix := Unit) (Name := ℕ) (U := UR sig nD τ) (Lvl := ℕ) spec1 c (fun b => after0 V c b)
  hentry c := by
    rw [Pipeline.ownSems0_none, ← Pipeline.unscopedBufs_held (Ix := Unit) (Name := ℕ) (U := UR sig nD τ) (Lvl := ℕ) c (after0 V c)]
    have hsplit := Pipeline.arrays_of_unscopedBufs (p := 1) (pcfgs (F := F)) adm (pdats V) launch1.win launch1.arr_whole c
      ((pdats V 1 c).share_full fun _ => rfl) (fun b => after0 V c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats V 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    rw [← Pipeline.unscopedBufs_held (Ix := Unit) (Name := ℕ) (U := UR sig nD τ) (Lvl := ℕ) c (after1 (after0 V) c)]
    have hjoin := Pipeline.unscopedBufs_of_arrays (p := 1) (pcfgs (F := F)) adm (Ix := Unit) (Name := ℕ) (U := UR sig nD τ) (Lvl := ℕ) launch1.win launch1.arr_whole c
      (pdats V) ((pdats V 1 c).share_full fun _ => rfl) (fun b => after0 V c b) (fun b => after1 (after0 V) c b) ((pdats V 1 c).arrAt · cfg1.N)
      (fun w => by
        fin_cases w
        · exact ((pdats V 1 c).arrAt_in 0 rfl _).trans (after1_of (after0 V) c main_arg0 (by decide) (by decide)).symm
        · exact (after1_idx (after0 V) c).symm
        · exact (after1_val (after0 V) c).symm)
      (fun b hb => after1_of (after0 V) c b (fun h => hb (h ▸ Finset.mem_image.mpr ⟨1, Finset.mem_univ _, rfl⟩))
        (fun h => hb (h ▸ Finset.mem_image.mpr ⟨2, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Clean

end
-- ==== Proof.My.Run.lean ====
/-
  The whole program run: from any memory with its counters at zero it terminates, and at the end the argument
  holds what it held, the result holds what the two calls and the final choice between them give, and every
  counter is zero.
-/
module

public import proofs.«01_k».proof.Proof.My.Region

@[expose] public section

noncomputable section

namespace Cert.KernelIdeal.Clean

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Seg HostSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at launch. -/
def start : Vals F := fun c b => m (c, b)

/-- The buffers when both calls are done. -/
def called : Vals F := after1 (after0 (start m))

/-- The buffers at the end. -/
def ended : Vals F := fun c => StableHlo.after hostOps2 (called m c)

/-- The final choice between the two calls' results, as a segment. -/
def hostSeg : HostSeg (Ix := Unit) (Name := ℕ) (U := UR sig nD τ) (Lvl := ℕ) (pcfgs (F := F)) defs₀ 𝒱₀ L₀ lv₀ :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (called m) Rest

/-- The program's segments. -/
def segments (_ : Dev nD) : List (Seg (pcfgs (F := F)) adm (pdats (start m)) () defs₀ 𝒱₀ L₀ lv₀) :=
  [.region (reg0 (start m)), .region (reg1 (start m)), .host (hostSeg m)]

/-- The launch's resources: every staging buffer's owner and a token for every transfer. -/
def res₀ : UR sig nD τ := initOf (Pipeline.cells cfgs cellOf_inj) (Pipeline.launchToks cfgs cellOf_inj)

/-- The argument is left as it was. -/
theorem ended_arg (c : Dev nD) : ended m c main_arg0 = m ((c : Thread nD τ).loc main_arg0) := by
  unfold ended
  rw [StableHlo.after_of_writes_sub hostOps2 _ hostOps2_writes (r := main_arg0) (by decide)]
  unfold called
  rw [after1_of _ c main_arg0 (by decide) (by decide), after0_of _ c main_arg0 (by decide) (by decide)]
  rfl

/-- What the launch hands a core is the first step's state. -/
theorem start_intro (c : Dev nD) :
    (iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ iprop(emp)) : sProp 𝕄)
    ⊢ iprop(StableHlo.held (c : Thread nD τ) (Pipeline.ucRefs τ sig) (start m c) ∗ Rest c) := by
  rw [← Pipeline.unscopedBufs_held (Ix := Unit) (Name := ℕ) (U := UR sig nD τ) (Lvl := ℕ) c (start m c)]
  iintro ⟨Hb, -, HO, -, -, -⟩
  isplitl [Hb]; · iexact Hb
  iexists ∅
  iexact HO

set_option backward.isDefEq.respectTransparency.types false in
/-- The program's run, at any float values. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_v0) = ended m c main_v0)
      ∧ r.2.sem = fun _ => 0) := by
  refine Pipeline.θ_run_regions_kit_dev_sems (pcfgs (F := F)) adm (pdats (start m)) () cellOf_inj emb₁ defs₀ 𝒱₀ L₀ lv₀ m ρ main
    (segments m)
    (fun c Q => by
      rewrite [main_chain c, Seg.run_eq_chain,
        show (segments m c).map Seg.prog = [
          Prog.lift (.customCall (Pipeline.entry 0) ()),
          Prog.lift (.customCall (Pipeline.entry 1) ()),
          StableHlo.seq hostOps2 ] from rfl]
      exact .rfl)
    (fun c => by simp only [segments, Seg.pipes_host, Seg.pipes_region, Seg.pipes_nil]; decide) (fun _ => 0) (fun _ _ => rfl)
    (fun _ => iprop(emp)) res₀ ?_
    (T₀ := fun c => iprop(StableHlo.held (c : Thread nD τ) (Pipeline.ucRefs τ sig) (start m c) ∗ Rest c))
    (Tₙ := fun c => StableHlo.held (c : Thread nD τ) (Pipeline.ucRefs τ sig) (ended m c))
    (hch := fun c => ⟨.rfl, .rfl, .rfl, .rfl⟩)
    (hinit := ?_) (QY := fun c s => s.mem ((c.tc : Thread nD τ).loc main_arg0) = m ((c.tc : Thread nD τ).loc main_arg0)
      ∧ s.mem ((c.tc : Thread nD τ).loc main_v0) = ended m c main_v0)
    (hfin := fun c s' => ?_) (hQ := fun _ h hz => ⟨h, funext fun g => hz g (.inr (regions_no_unscoped g.2))⟩)
  · have hown : (ownU res₀ : sProp 𝕄) ⊢ BI.own ((emb₁ : Emb (UR sig nD τ) 𝕄) (initOf (Pipeline.cells cfgs cellOf_inj) (Pipeline.launchToks cfgs cellOf_inj))) :=
      BI.Entails.refl _
    iintro Hu
    imodintro
    isplitl [Hu]; · iapply hown; iexact Hu
    iapply (show (BI.emp : sProp 𝕄) ⊢ bigSep Finset.univ (fun _ : Dev nD => (BI.emp : sProp 𝕄)) from by rw [BI.bigSep_emp_const])
    iempintro
  · have hrest : (bigSep Finset.univ fun c : Dev nD => iprop(unscopedBufs c (fun b => m ((c.tc : Thread nD τ).loc b)) ∗ unscopedSems0 c
          ∗ owes (c.tc : Thread nD τ) 0 ∅ ∗ Pipeline.launchCred (fun _ => 0) c ∗ prngReg c (ρ c) ∗ iprop(emp)))
        ⊢ (bigSep Finset.univ fun c : Dev nD => iprop(StableHlo.held (c : Thread nD τ) (Pipeline.ucRefs τ sig) (start m c) ∗ Rest c) : sProp 𝕄) :=
      bigSep_mono fun c _ => start_intro m ρ c
    iintro ⟨H, -⟩
    imodintro
    iapply hrest
    iexact H
  · unfold StableHlo.held
    iintro ⟨Hh, HSI⟩
    ihave Hr := (pointsTo_read_all (Pipeline.ucRefs τ sig) (fun b => ((c : Thread nD τ).1, b)) (ended m c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (ended_arg m c),
        h (Proc.devRef .tc main_v0) (Finset.mem_filter.mpr ⟨StableHlo.devRef_mem_tcRefs main_v0, by decide⟩)⟩
    · iexact HSI

end Cert.KernelIdeal.Clean

end
-- ==== Proof.My.KernelFrame.lean ====
/-
  The kernel as printed at its own float formats: its text is the one the other modules read at any formats, so its
  run is theirs.
-/
module

public import proofs.«01_k».proof.Proof.My.Run
public import proofs.«01_k».proof.Proof.Gen.Kernel

@[expose] public section

noncomputable section

namespace Cert.Kernel.Clean

open Idealize.ShloMosaic Idealize.SL.Sem
open Idealize.ShloMosaic.TcCoe

variable {F : FTy → Type} [FloatOps F]

attribute [local instance] Cert.Kernel.Gen.facts Cert.KernelIdeal.Gen.facts

/-- The two printed programs have the same table of kernels. -/
theorem defs0_same : Cert.Kernel.defs₀ (F := F) = Cert.KernelIdeal.defs₀ (F := F) := by
  unfold Cert.Kernel.defs₀ Cert.KernelIdeal.defs₀
  refine congrArg Defs.onTc ?_
  funext l a
  match l, a with
  | 0, _ => rfl
  | 1, _ => rfl
  | ⟨_ + 2, h⟩, _ => exact absurd h (Nat.not_lt.2 (Nat.le_add_left _ _))

/-- The two printed programs have the same table of calls. -/
theorem defs_same : Cert.Kernel.defs (F := F) = Cert.KernelIdeal.defs (F := F) :=
  congrArg (Pipeline.defs _) defs0_same

/-- The two printed programs have the same main program. -/
theorem main_same : Cert.Kernel.main (F := F) = Cert.KernelIdeal.main (F := F) := rfl

/-- The kernel's own run, the argument unchanged, the counters zero. -/
theorem run (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)
         ∧ r.2.mem ((c.tc : Thread nD τ).loc main_v0) = Cert.KernelIdeal.Clean.ended (F := F) m c (Proc.devRef .tc Cert.KernelIdeal.main_v0)) ∧ r.2.sem = fun _ => 0) := by
  rw [defs_same, main_same]
  exact Cert.KernelIdeal.Clean.run (F := F) m ρ

end Cert.Kernel.Clean

end
-- ==== Proof.My.RefOps.lean ====
/-
  The reference's operations as lists, in the order in which it runs them, and the run of the whole reference.
-/
module

public import proofs.«01_k».proof.Proof.Gen.ReferenceIdeal
public import Idealize.ShloMosaic.Lib.StableHlo.RunRead

@[expose] public section

noncomputable section

namespace Cert.ReferenceIdeal.Clean

open Idealize.ShloMosaic Idealize.ShloMosaic.TcCoe Idealize.SL.Sem Idealize.ShloMosaic.StableHlo
open Cert.ReferenceIdeal Facts₀ Facts

variable {F : FTy → Type} [FloatOps F]
variable [Facts]

/-- The softmax's operations. -/
def softOps : List (HloOp τ sig (Elt F)) := [
  nullary main_cst (constant S_ .f32 0x3F800000#32),
  unary main_cst main_v0 (broadcastInDim S64x1000000 ![] bcast_S_S64x1000000 : (⟨S_, .f32⟩ : BufTy).Contents (Elt F) → (⟨S64x1000000, .f32⟩ : BufTy).Contents (Elt F)),
  binary main_arg0 main_v0 main_v1 (mulf : (⟨S64x1000000, .f32⟩ : BufTy).Contents (Elt F) → (⟨S64x1000000, .f32⟩ : BufTy).Contents (Elt F) → (⟨S64x1000000, .f32⟩ : BufTy).Contents (Elt F)),
  nullary main_cst_0 (constant S_ .f32 0xFF800000#32),
  binary main_v1 main_cst_0 main_v2 ((fun x v => Host.reduce FloatOps.maximumf x v reducesTo_S64x1000000_S64_d1 h_S_) : (⟨S64x1000000, .f32⟩ : BufTy).Contents (Elt F) → (⟨S_, .f32⟩ : BufTy).Contents (Elt F) → (⟨S64, .f32⟩ : BufTy).Contents (Elt F)),
  nullary main_cst_1 (constant S_ .f32 0xFF800000#32),
  unary main_cst_1 main_v3 (broadcastInDim S64 ![] bcast_S_S64 : (⟨S_, .f32⟩ : BufTy).Contents (Elt F) → (⟨S64, .f32⟩ : BufTy).Contents (Elt F)),
  binary main_v3 main_v2 main_v4 (maximumf : (⟨S64, .f32⟩ : BufTy).Contents (Elt F) → (⟨S64, .f32⟩ : BufTy).Contents (Elt F) → (⟨S64, .f32⟩ : BufTy).Contents (Elt F)),
  unary main_v4 main_v5 (broadcastInDim S64x1 ![0] bcast_S64_S64x1_0 : (⟨S64, .f32⟩ : BufTy).Contents (Elt F) → (⟨S64x1, .f32⟩ : BufTy).Contents (Elt F)),
  unary main_v5 main_v6 (broadcastInDim S64x1000000 ![0, 1] bcast_S64x1_S64x1000000_0_1 : (⟨S64x1, .f32⟩ : BufTy).Contents (Elt F) → (⟨S64x1000000, .f32⟩ : BufTy).Contents (Elt F)),
  binary main_v1 main_v6 main_v7 (subf : (⟨S64x1000000, .f32⟩ : BufTy).Contents (Elt F) → (⟨S64x1000000, .f32⟩ : BufTy).Contents (Elt F) → (⟨S64x1000000, .f32⟩ : BufTy).Contents (Elt F)),
  unary main_v7 main_v8 (Host.exp : (⟨S64x1000000, .f32⟩ : BufTy).Contents (Elt F) → (⟨S64x1000000, .f32⟩ : BufTy).Contents (Elt F)),
  nullary main_cst_2 (constant S_ .f32 0x00000000#32),
  binary main_v8 main_cst_2 main_v9 ((fun x v => Host.reduceAdd x v reducesTo_S64x1000000_S64_d1 h_S_) : (⟨S64x1000000, .f32⟩ : BufTy).Contents (Elt F) → (⟨S_, .f32⟩ : BufTy).Contents (Elt F) → (⟨S64, .f32⟩ : BufTy).Contents (Elt F)),
  unary main_v9 main_v10 (broadcastInDim S64x1 ![0] bcast_S64_S64x1_0 : (⟨S64, .f32⟩ : BufTy).Contents (Elt F) → (⟨S64x1, .f32⟩ : BufTy).Contents (Elt F)),
  unary main_v10 main_v11 (broadcastInDim S64x1000000 ![0, 1] bcast_S64x1_S64x1000000_0_1 : (⟨S64x1, .f32⟩ : BufTy).Contents (Elt F) → (⟨S64x1000000, .f32⟩ : BufTy).Contents (Elt F)),
  binary main_v8 main_v11 main_v12 (Host.divf : (⟨S64x1000000, .f32⟩ : BufTy).Contents (Elt F) → (⟨S64x1000000, .f32⟩ : BufTy).Contents (Elt F) → (⟨S64x1000000, .f32⟩ : BufTy).Contents (Elt F))]

/-- The key's and the counters' operations. -/
def keyOps : List (HloOp τ sig (Elt F)) := [
  nullary main_c (constantI S_ 32 42#32),
  nullary main_c_3 (constantI S_ 32 32#32),
  binary main_c main_c_3 main_v13 (Host.shrui : (⟨S_, .i32⟩ : BufTy).Contents (Elt F) → (⟨S_, .i32⟩ : BufTy).Contents (Elt F) → (⟨S_, .i32⟩ : BufTy).Contents (Elt F)),
  unary main_v13 main_v14 (id : (⟨S_, .i32⟩ : BufTy).Contents (Elt F) → (⟨S_, .i32⟩ : BufTy).Contents (Elt F)),
  unary main_v14 main_v15 (broadcastInDim S1 ![] bcast_S_S1 : (⟨S_, .i32⟩ : BufTy).Contents (Elt F) → (⟨S1, .i32⟩ : BufTy).Contents (Elt F)),
  nullary main_c_4 (constantI S_ 32 4294967295#32),
  binary main_c main_c_4 main_v16 (andi : (⟨S_, .i32⟩ : BufTy).Contents (Elt F) → (⟨S_, .i32⟩ : BufTy).Contents (Elt F) → (⟨S_, .i32⟩ : BufTy).Contents (Elt F)),
  unary main_v16 main_v17 (id : (⟨S_, .i32⟩ : BufTy).Contents (Elt F) → (⟨S_, .i32⟩ : BufTy).Contents (Elt F)),
  unary main_v17 main_v18 (broadcastInDim S1 ![] bcast_S_S1 : (⟨S_, .i32⟩ : BufTy).Contents (Elt F) → (⟨S1, .i32⟩ : BufTy).Contents (Elt F)),
  binary main_v15 main_v18 main_v19 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
  nullary main_cst_5 (constant S_ .f32 0x00000000#32),
  nullary main_cst_6 (constant S_ .f32 0x3F800000#32),
  unary main_cst_5 main_call0_v0 (id : (⟨S_, .f32⟩ : BufTy).Contents (Elt F) → (⟨S_, .f32⟩ : BufTy).Contents (Elt F)),
  unary main_cst_6 main_call0_v1 (id : (⟨S_, .f32⟩ : BufTy).Contents (Elt F) → (⟨S_, .f32⟩ : BufTy).Contents (Elt F)),
  unary main_call0_v0 main_call0_v2 ((broadcastInDim S1x1 ![] bcast_S_S1x1) : (⟨S_, .f32⟩ : BufTy).Contents (Elt F) → (⟨S1x1, .f32⟩ : BufTy).Contents (Elt F)),
  unary main_call0_v1 main_call0_v3 ((broadcastInDim S1x1 ![] bcast_S_S1x1) : (⟨S_, .f32⟩ : BufTy).Contents (Elt F) → (⟨S1x1, .f32⟩ : BufTy).Contents (Elt F)),
  unary main_v19 main_call0_v4 ((extractStridedSlice S1 ![0] · slices_S2_S1_0) : (⟨S2, .i32⟩ : BufTy).Contents (Elt F) → (⟨S1, .i32⟩ : BufTy).Contents (Elt F)),
  reshape main_call0_v4 main_call0_v5 (rfl : (.i32 : EltTy) = .i32) shapeCasts_S1_S_,
  unary main_v19 main_call0_v6 ((extractStridedSlice S1 ![1] · slices_S2_S1_1) : (⟨S2, .i32⟩ : BufTy).Contents (Elt F) → (⟨S1, .i32⟩ : BufTy).Contents (Elt F)),
  reshape main_call0_v6 main_call0_v7 (rfl : (.i32 : EltTy) = .i32) shapeCasts_S1_S_,
  nullary main_call0_v8 ((iotaInDim S64x1000000 64 0) : (⟨S64x1000000, .i64⟩ : BufTy).Contents (Elt F)),
  nullary main_call0_v9 ((iotaInDim S64x1000000 64 1) : (⟨S64x1000000, .i64⟩ : BufTy).Contents (Elt F)),
  nullary main_call0_c ((constantI S_ 64 1000000#64) : (⟨S_, .i64⟩ : BufTy).Contents (Elt F)),
  unary main_call0_c main_call0_v10 ((broadcastInDim S64x1000000 ![] bcast_S_S64x1000000) : (⟨S_, .i64⟩ : BufTy).Contents (Elt F) → (⟨S64x1000000, .i64⟩ : BufTy).Contents (Elt F)),
  binary main_call0_v10 main_call0_v8 main_call0_v11 (muli : (⟨S64x1000000, .i64⟩ : BufTy).Contents (Elt F) → (⟨S64x1000000, .i64⟩ : BufTy).Contents (Elt F) → (⟨S64x1000000, .i64⟩ : BufTy).Contents (Elt F)),
  nullary main_call0_c_0 ((constantI S_ 64 1#64) : (⟨S_, .i64⟩ : BufTy).Contents (Elt F)),
  unary main_call0_c_0 main_call0_v12 ((broadcastInDim S64x1000000 ![] bcast_S_S64x1000000) : (⟨S_, .i64⟩ : BufTy).Contents (Elt F) → (⟨S64x1000000, .i64⟩ : BufTy).Contents (Elt F)),
  binary main_call0_v12 main_call0_v9 main_call0_v13 (muli : (⟨S64x1000000, .i64⟩ : BufTy).Contents (Elt F) → (⟨S64x1000000, .i64⟩ : BufTy).Contents (Elt F) → (⟨S64x1000000, .i64⟩ : BufTy).Contents (Elt F)),
  binary main_call0_v11 main_call0_v13 main_call0_v14 (addi : (⟨S64x1000000, .i64⟩ : BufTy).Contents (Elt F) → (⟨S64x1000000, .i64⟩ : BufTy).Contents (Elt F) → (⟨S64x1000000, .i64⟩ : BufTy).Contents (Elt F)),
  nullary main_call0_c_1 ((constantI S_ 64 32#64) : (⟨S_, .i64⟩ : BufTy).Contents (Elt F)),
  unary main_call0_c_1 main_call0_v15 ((broadcastInDim S64x1000000 ![] bcast_S_S64x1000000) : (⟨S_, .i64⟩ : BufTy).Contents (Elt F) → (⟨S64x1000000, .i64⟩ : BufTy).Contents (Elt F)),
  binary main_call0_v14 main_call0_v15 main_call0_v16 (Host.shrui : (⟨S64x1000000, .i64⟩ : BufTy).Contents (Elt F) → (⟨S64x1000000, .i64⟩ : BufTy).Contents (Elt F) → (⟨S64x1000000, .i64⟩ : BufTy).Contents (Elt F)),
  unary main_call0_v14 main_call0_v17 ((trunci 32 · natLt_32_64) : (⟨S64x1000000, .i64⟩ : BufTy).Contents (Elt F) → (⟨S64x1000000, .i32⟩ : BufTy).Contents (Elt F)),
  unary main_call0_v16 main_call0_v18 ((trunci 32 · natLt_32_64) : (⟨S64x1000000, .i64⟩ : BufTy).Contents (Elt F) → (⟨S64x1000000, .i32⟩ : BufTy).Contents (Elt F))]

/-- The counter hash, rounds 1 to 4 and the start of round 5. -/
def tfOps0 : List (HloOp τ sig (Elt F)) := [
  binary main_call0_v5 main_call0_v7 main_call0_call0_v0 (xori : (⟨S_, .i32⟩ : BufTy).Contents (Elt F) → (⟨S_, .i32⟩ : BufTy).Contents (Elt F) → (⟨S_, .i32⟩ : BufTy).Contents (Elt F)),
  nullary main_call0_call0_c ((constantI S_ 32 466688986#32) : (⟨S_, .i32⟩ : BufTy).Contents (Elt F)),
  binary main_call0_call0_v0 main_call0_call0_c main_call0_call0_v1 (xori : (⟨S_, .i32⟩ : BufTy).Contents (Elt F) → (⟨S_, .i32⟩ : BufTy).Contents (Elt F) → (⟨S_, .i32⟩ : BufTy).Contents (Elt F)),
  unary main_call0_v5 main_call0_call0_v2 ((broadcastInDim S64x1000000 ![] bcast_S_S64x1000000) : (⟨S_, .i32⟩ : BufTy).Contents (Elt F) → (⟨S64x1000000, .i32⟩ : BufTy).Contents (Elt F)),
  binary main_call0_v18 main_call0_call0_v2 main_call0_call0_v3 (addi : (⟨S64x1000000, .i32⟩ : BufTy).Contents (Elt F) → (⟨S64x1000000, .i32⟩ : BufTy).Contents (Elt F) → (⟨S64x1000000, .i32⟩ : BufTy).Contents (Elt F)),
  unary main_call0_v7 main_call0_call0_v4 ((broadcastInDim S64x1000000 ![] bcast_S_S64x1000000) : (⟨S_, .i32⟩ : BufTy).Contents (Elt F) → (⟨S64x1000000, .i32⟩ : BufTy).Contents (Elt F)),
  binary main_call0_v17 main_call0_call0_v4 main_call0_call0_v5 (addi : (⟨S64x1000000, .i32⟩ : BufTy).Contents (Elt F) → (⟨S64x1000000, .i32⟩ : BufTy).Contents (Elt F) → (⟨S64x1000000, .i32⟩ : BufTy).Contents (Elt F)),
  binary main_call0_call0_v3 main_call0_call0_v5 main_call0_call0_v6 (addi : (⟨S64x1000000, .i32⟩ : BufTy).Contents (Elt F) → (⟨S64x1000000, .i32⟩ : BufTy).Contents (Elt F) → (⟨S64x1000000, .i32⟩ : BufTy).Contents (Elt F)),
  nullary main_call0_call0_c_0 ((constantI S_ 32 13#32) : (⟨S_, .i32⟩ : BufTy).Contents (Elt F)),
  unary main_call0_call0_c_0 main_call0_call0_v7 ((broadcastInDim S64x1000000 ![] bcast_S_S64x1000000) : (⟨S_, .i32⟩ : BufTy).Contents (Elt F) → (⟨S64x1000000, .i32⟩ : BufTy).Contents (Elt F)),
  binary main_call0_call0_v5 main_call0_call0_v7 main_call0_call0_v8 (Host.shli : (⟨S64x1000000, .i32⟩ : BufTy).Contents (Elt F) → (⟨S64x1000000, .i32⟩ : BufTy).Contents (Elt F) → (⟨S64x1000000, .i32⟩ : BufTy).Contents (Elt F)),
  nullary main_call0_call0_c_1 ((constantI S_ 32 19#32) : (⟨S_, .i32⟩ : BufTy).Contents (Elt F)),
  unary main_call0_call0_c_1 main_call0_call0_v9 ((broadcastInDim S64x1000000 ![] bcast_S_S64x1000000) : (⟨S_, .i32⟩ : BufTy).Contents (Elt F) → (⟨S64x1000000, .i32⟩ : BufTy).Contents (Elt F)),
  binary main_call0_call0_v5 main_call0_call0_v9 main_call0_call0_v10 (Host.shrui : (⟨S64x1000000, .i32⟩ : BufTy).Contents (Elt F) → (⟨S64x1000000, .i32⟩ : BufTy).Contents (Elt F) → (⟨S64x1000000, .i32⟩ : BufTy).Contents (Elt F)),
  binary main_call0_call0_v8 main_call0_call0_v10 main_call0_call0_v11 (ori : (⟨S64x1000000, .i32⟩ : BufTy).Contents (Elt F) → (⟨S64x1000000, .i32⟩ : BufTy).Contents (Elt F) → (⟨S64x1000000, .i32⟩ : BufTy).Contents (Elt F)),
  binary main_call0_call0_v6 main_call0_call0_v11 main_call0_call0_v12 (xori : (⟨S64x1000000, .i32⟩ : BufTy).Contents (Elt F) → (⟨S64x1000000, .i32⟩ : BufTy).Contents (Elt F) → (⟨S64x1000000, .i32⟩ : BufTy).Contents (Elt F)),
  binary main_call0_call0_v6 main_call0_call0_v12 main_call0_call0_v13 (addi : (⟨S64x1000000, .i32⟩ : BufTy).Contents (Elt F) → (⟨S64x1000000, .i32⟩ : BufTy).Contents (Elt F) → (⟨S64x1000000, .i32⟩ : BufTy).Contents (Elt F)),
  nullary main_call0_call0_c_2 ((constantI S_ 32 15#32) : (⟨S_, .i32⟩ : BufTy).Contents (Elt F)),
  unary main_call0_call0_c_2 main_call0_call0_v14 ((broadcastInDim S64x1000000 ![] bcast_S_S64x1000000) : (⟨S_, .i32⟩ : BufTy).Contents (Elt F) → (⟨S64x1000000, .i32⟩ : BufTy).Contents (Elt F)),
  binary main_call0_call0_v12 main_call0_call0_v14 main_call0_call0_v15 (Host.shli : (⟨S64x1000000, .i32⟩ : BufTy).Contents (Elt F) → (⟨S64x1000000, .i32⟩ : BufTy).Contents (Elt F) → (⟨S64x1000000, .i32⟩ : BufTy).Contents (Elt F)),
  nullary main_call0_call0_c_3 ((constantI S_ 32 17#32) : (⟨S_, .i32⟩ : BufTy).Contents (Elt F)),
  unary main_call0_call0_c_3 main_call0_call0_v16 ((broadcastInDim S64x1000000 ![] bcast_S_S64x1000000) : (⟨S_, .i32⟩ : BufTy).Contents (Elt F) → (⟨S64x1000000, .i32⟩ : BufTy).Contents (Elt F)),
  binary main_call0_call0_v12 main_call0_call0_v16 main_call0_call0_v17 (Host.shrui : (⟨S64x1000000, .i32⟩ : BufTy).Contents (Elt F) → (⟨S64x1000000, .i32⟩ : BufTy).Contents (Elt F) → (⟨S64x1000000, .i32⟩ : BufTy).Contents (Elt F)),
  binary main_call0_call0_v15 main_call0_call0_v17 main_call0_call0_v18 (ori : (⟨S64x1000000, .i32⟩ : BufTy).Contents (Elt F) → (⟨S64x1000000, .i32⟩ : BufTy).Contents (Elt F) → (⟨S64x1000000, .i32⟩ : BufTy).Contents (Elt F)),
  binary main_call0_call0_v13 main_call0_call0_v18 main_call0_call0_v19 (xori : (⟨S64x1000000, .i32⟩ : BufTy).Contents (Elt F) → (⟨S64x1000000, .i32⟩ : BufTy).Contents (Elt F) → (⟨S64x1000000, .i32⟩ : BufTy).Contents (Elt F)),
  binary main_call0_call0_v13 main_call0_call0_v19 main_call0_call0_v20 (addi : (⟨S64x1000000, .i32⟩ : BufTy).Contents (Elt F) → (⟨S64x1000000, .i32⟩ : BufTy).Contents (Elt F) → (⟨S64x1000000, .i32⟩ : BufTy).Contents (Elt F)),
  nullary main_call0_call0_c_4 ((constantI S_ 32 26#32) : (⟨S_, .i32⟩ : BufTy).Contents (Elt F)),
  unary main_call0_call0_c_4 main_call0_call0_v21 ((broadcastInDim S64x1000000 ![] bcast_S_S64x1000000) : (⟨S_, .i32⟩ : BufTy).Contents (Elt F) → (⟨S64x1000000, .i32⟩ : BufTy).Contents (Elt F)),
  binary main_call0_call0_v19 main_call0_call0_v21 main_call0_call0_v22 (Host.shli : (⟨S64x1000000, .i32⟩ : BufTy).Contents (Elt F) → (⟨S64x1000000, .i32⟩ : BufTy).Contents (Elt F) → (⟨S64x1000000, .i32⟩ : BufTy).Contents (Elt F)),
  nullary main_call0_call0_c_5 ((constantI S_ 32 6#32) : (⟨S_, .i32⟩ : BufTy).Contents (Elt F)),
  unary main_call0_call0_c_5 main_call0_call0_v23 ((broadcastInDim S64x1000000 ![] bcast_S_S64x1000000) : (⟨S_, .i32⟩ : BufTy).Contents (Elt F) → (⟨S64x1000000, .i32⟩ : BufTy).Contents (Elt F)),
  binary main_call0_call0_v19 main_call0_call0_v23 main_call0_call0_v24 (Host.shrui : (⟨S64x1000000, .i32⟩ : BufTy).Contents (Elt F) → (⟨S64x1000000, .i32⟩ : BufTy).Contents (Elt F) → (⟨S64x1000000, .i32⟩ : BufTy).Contents (Elt F)),
  binary main_call0_call0_v22 main_call0_call0_v24 main_call0_call0_v25 (ori : (⟨S64x1000000, .i32⟩ : BufTy).Contents (Elt F) → (⟨S64x1000000, .i32⟩ : BufTy).Contents (Elt F) → (⟨S64x1000000, .i32⟩ : BufTy).Contents (Elt F)),
  binary main_call0_call0_v20 main_call0_call0_v25 main_call0_call0_v26 (xori : (⟨S64x1000000, .i32⟩ : BufTy).Contents (Elt F) → (⟨S64x1000000, .i32⟩ : BufTy).Contents (Elt F) → (⟨S64x1000000, .i32⟩ : BufTy).Contents (Elt F)),
  binary main_call0_call0_v20 main_call0_call0_v26 main_call0_call0_v27 (addi : (⟨S64x1000000, .i32⟩ : BufTy).Contents (Elt F) → (⟨S64x1000000, .i32⟩ : BufTy).Contents (Elt F) → (⟨S64x1000000, .i32⟩ : BufTy).Contents (Elt F)),
  nullary main_call0_call0_c_6 ((constantI S_ 32 6#32) : (⟨S_, .i32⟩ : BufTy).Contents (Elt F)),
  unary main_call0_call0_c_6 main_call0_call0_v28 ((broadcastInDim S64x1000000 ![] bcast_S_S64x1000000) : (⟨S_, .i32⟩ : BufTy).Contents (Elt F) → (⟨S64x1000000, .i32⟩ : BufTy).Contents (Elt F)),
  binary main_call0_call0_v26 main_call0_call0_v28 main_call0_call0_v29 (Host.shli : (⟨S64x1000000, .i32⟩ : BufTy).Contents (Elt F) → (⟨S64x1000000, .i32⟩ : BufTy).Contents (Elt F) → (⟨S64x1000000, .i32⟩ : BufTy).Contents (Elt F)),
  nullary main_call0_call0_c_7 ((constantI S_ 32 26#32) : (⟨S_, .i32⟩ : BufTy).Contents (Elt F)),
  unary main_call0_call0_c_7 main_call0_call0_v30 ((broadcastInDim S64x1000000 ![] bcast_S_S64x1000000) : (⟨S_, .i32⟩ : BufTy).Contents (Elt F) → (⟨S64x1000000, .i32⟩ : BufTy).Contents (Elt F)),
  binary main_call0_call0_v26 main_call0_call0_v30 main_call0_call0_v31 (Host.shrui : (⟨S64x1000000, .i32⟩ : BufTy).Contents (Elt F) → (⟨S64x1000000, .i32⟩ : BufTy).Contents (Elt F) → (⟨S64x1000000, .i32⟩ : BufTy).Contents (Elt F)),
  binary main_call0_call0_v29 main_call0_call0_v31 main_call0_call0_v32 (ori : (⟨S64x1000000, .i32⟩ : BufTy).Contents (Elt F) → (⟨S64x1000000, .i32⟩ : BufTy).Contents (Elt F) → (⟨S64x1000000, .i32⟩ : BufTy).Contents (Elt F)),
  binary main_call0_call0_v27 main_call0_call0_v32 main_call0_call0_v33 (xori : (⟨S64x1000000, .i32⟩ : BufTy).Contents (Elt F) → (⟨S64x1000000, .i32⟩ : BufTy).Contents (Elt F) → (⟨S64x1000000, .i32⟩ : BufTy).Contents (Elt F)),
  unary main_call0_v7 main_call0_call0_v34 ((broadcastInDim S64x1000000 ![] bcast_S_S64x1000000) : (⟨S_, .i32⟩ : BufTy).Contents (Elt F) → (⟨S64x1000000, .i32⟩ : BufTy).Contents (Elt F)),
  binary main_call0_call0_v27 main_call0_call0_v34 main_call0_call0_v35 (addi : (⟨S64x1000000, .i32⟩ : BufTy).Contents (Elt F) → (⟨S64x1000000, .i32⟩ : BufTy).Contents (Elt F) → (⟨S64x1000000, .i32⟩ : BufTy).Contents (Elt F)),
  unary main_call0_call0_v1 main_call0_call0_v36 ((broadcastInDim S64x1000000 ![] bcast_S_S64x1000000) : (⟨S_, .i32⟩ : BufTy).Contents (Elt F) → (⟨S64x1000000, .i32⟩ : BufTy).Contents (Elt F)),
  binary main_call0_call0_v33 main_call0_call0_v36 main_call0_call0_v37 (addi : (⟨S64x1000000, .i32⟩ : BufTy).Contents (Elt F) → (⟨S64x1000000, .i32⟩ : BufTy).Contents (Elt F) → (⟨S64x1000000, .i32⟩ : BufTy).Contents (Elt F)),
  nullary main_call0_call0_c_8 ((constantI S_ 32 1#32) : (⟨S_, .i32⟩ : BufTy).Contents (Elt F)),
  unary main_call0_call0_c_8 main_call0_call0_v38 ((broadcastInDim S64x1000000 ![] bcast_S_S64x1000000) : (⟨S_, .i32⟩ : BufTy).Contents (Elt F) → (⟨S64x1000000, .i32⟩ : BufTy).Contents (Elt F)),
  binary main_call0_call0_v37 main_call0_call0_v38 main_call0_call0_v39 (addi : (⟨S64x1000000, .i32⟩ : BufTy).Contents (Elt F) → (⟨S64x1000000, .i32⟩ : BufTy).Contents (Elt F) → (⟨S64x1000000, .i32⟩ : BufTy).Contents (Elt F)),
  binary main_call0_call0_v35 main_call0_call0_v39 main_call0_call0_v40 (addi : (⟨S64x1000000, .i32⟩ : BufTy).Contents (Elt F) → (⟨S64x1000000, .i32⟩ : BufTy).Contents (Elt F) → (⟨S64x1000000, .i32⟩ : BufTy).Contents (Elt F)),
  nullary main_call0_call0_c_9 ((constantI S_ 32 17#32) : (⟨S_, .i32⟩ : BufTy).Contents (Elt F)),
  unary main_call0_call0_c_9 main_call0_call0_v41 ((broadcastInDim S64x1000000 ![] bcast_S_S64x1000000) : (⟨S_, .i32⟩ : BufTy).Contents (Elt F) → (⟨S64x1000000, .i32⟩ : BufTy).Contents (Elt F)),
  binary main_call0_call0_v39 main_call0_call0_v41 main_call0_call0_v42 (Host.shli : (⟨S64x1000000, .i32⟩ : BufTy).Contents (Elt F) → (⟨S64x1000000, .i32⟩ : BufTy).Contents (Elt F) → (⟨S64x1000000, .i32⟩ : BufTy).Contents (Elt F)),
  nullary main_call0_call0_c_10 ((constantI S_ 32 15#32) : (⟨S_, .i32⟩ : BufTy).Contents (Elt F)),
  unary main_call0_call0_c_10 main_call0_call0_v43 ((broadcastInDim S64x1000000 ![] bcast_S_S64x1000000) : (⟨S_, .i32⟩ : BufTy).Contents (Elt F) → (⟨S64x1000000, .i32⟩ : BufTy).Contents (Elt F)),
  binary main_call0_call0_v39 main_call0_call0_v43 main_call0_call0_v44 (Host.shrui : (⟨S64x1000000, .i32⟩ : BufTy).Contents (Elt F) → (⟨S64x1000000, .i32⟩ : BufTy).Contents (Elt F) → (⟨S64x1000000, .i32⟩ : BufTy).Contents (Elt F)),
  binary main_call0_call0_v42 main_call0_call0_v44 main_call0_call0_v45 (ori : (⟨S64x1000000, .i32⟩ : BufTy).Contents (Elt F) → (⟨S64x1000000, .i32⟩ : BufTy).Contents (Elt F) → (⟨S64x1000000, .i32⟩ : BufTy).Contents (Elt F)),
  binary main_call0_call0_v40 main_call0_call0_v45 main_call0_call0_v46 (xori : (⟨S64x1000000, .i32⟩ : BufTy).Contents (Elt F) → (⟨S64x1000000, .i32⟩ : BufTy).Contents (Elt F) → (⟨S64x1000000, .i32⟩ : BufTy).Contents (Elt F)),
  binary main_call0_call0_v40 main_call0_call0_v46 main_call0_call0_v47 (addi : (⟨S64x1000000, .i32⟩ : BufTy).Contents (Elt F) → (⟨S64x1000000, .i32⟩ : BufTy).Contents (Elt F) → (⟨S64x1000000, .i32⟩ : BufTy).Contents (Elt F))]

/-- The counter hash, second part. -/
def tfOps1 : List (HloOp τ sig (Elt F)) := [
  nullary main_call0_call0_c_11 ((constantI S_ 32 29#32) : (⟨S_, .i32⟩ : BufTy).Contents (Elt F)),
  unary main_call0_call0_c_11 main_call0_call0_v48 ((broadcastInDim S64x1000000 ![] bcast_S_S64x1000000) : (⟨S_, .i32⟩ : BufTy).Contents (Elt F) → (⟨S64x1000000, .i32⟩ : BufTy).Contents (Elt F)),
  binary main_call0_call0_v46 main_call0_call0_v48 main_call0_call0_v49 (Host.shli : (⟨S64x1000000, .i32⟩ : BufTy).Contents (Elt F) → (⟨S64x1000000, .i32⟩ : BufTy).Contents (Elt F) → (⟨S64x1000000, .i32⟩ : BufTy).Contents (Elt F)),
  nullary main_call0_call0_c_12 ((constantI S_ 32 3#32) : (⟨S_, .i32⟩ : BufTy).Contents (Elt F)),
  unary main_call0_call0_c_12 main_call0_call0_v50 ((broadcastInDim S64x1000000 ![] bcast_S_S64x1000000) : (⟨S_, .i32⟩ : BufTy).Contents (Elt F) → (⟨S64x1000000, .i32⟩ : BufTy).Contents (Elt F)),
  binary main_call0_call0_v46 main_call0_call0_v50 main_call0_call0_v51 (Host.shrui : (⟨S64x1000000, .i32⟩ : BufTy).Contents (Elt F) → (⟨S64x1000000, .i32⟩ : BufTy).Contents (Elt F) → (⟨S64x1000000, .i32⟩ : BufTy).Contents (Elt F)),
  binary main_call0_call0_v49 main_call0_call0_v51 main_call0_call0_v52 (ori : (⟨S64x1000000, .i32⟩ : BufTy).Contents (Elt F) → (⟨S64x1000000, .i32⟩ : BufTy).Contents (Elt F) → (⟨S64x1000000, .i32⟩ : BufTy).Contents (Elt F)),
  binary main_call0_call0_v47 main_call0_call0_v52 main_call0_call0_v53 (xori : (⟨S64x1000000, .i32⟩ : BufTy).Contents (Elt F) → (⟨S64x1000000, .i32⟩ : BufTy).Contents (Elt F) → (⟨S64x1000000, .i32⟩ : BufTy).Contents (Elt F)),
  binary main_call0_call0_v47 main_call0_call0_v53 main_call0_call0_v54 (addi : (⟨S64x1000000, .i32⟩ : BufTy).Contents (Elt F) → (⟨S64x1000000, .i32⟩ : BufTy).Contents (Elt F) → (⟨S64x1000000, .i32⟩ : BufTy).Contents (Elt F)),
  nullary main_call0_call0_c_13 ((constantI S_ 32 16#32) : (⟨S_, .i32⟩ : BufTy).Contents (Elt F)),
  unary main_call0_call0_c_13 main_call0_call0_v55 ((broadcastInDim S64x1000000 ![] bcast_S_S64x1000000) : (⟨S_, .i32⟩ : BufTy).Contents (Elt F) → (⟨S64x1000000, .i32⟩ : BufTy).Contents (Elt F)),
  binary main_call0_call0_v53 main_call0_call0_v55 main_call0_call0_v56 (Host.shli : (⟨S64x1000000, .i32⟩ : BufTy).Contents (Elt F) → (⟨S64x1000000, .i32⟩ : BufTy).Contents (Elt F) → (⟨S64x1000000, .i32⟩ : BufTy).Contents (Elt F)),
  nullary main_call0_call0_c_14 ((constantI S_ 32 16#32) : (⟨S_, .i32⟩ : BufTy).Contents (Elt F)),
  unary main_call0_call0_c_14 main_call0_call0_v57 ((broadcastInDim S64x1000000 ![] bcast_S_S64x1000000) : (⟨S_, .i32⟩ : BufTy).Contents (Elt F) → (⟨S64x1000000, .i32⟩ : BufTy).Contents (Elt F)),
  binary main_call0_call0_v53 main_call0_call0_v57 main_call0_call0_v58 (Host.shrui : (⟨S64x1000000, .i32⟩ : BufTy).Contents (Elt F) → (⟨S64x1000000, .i32⟩ : BufTy).Contents (Elt F) → (⟨S64x1000000, .i32⟩ : BufTy).Contents (Elt F)),
  binary main_call0_call0_v56 main_call0_call0_v58 main_call0_call0_v59 (ori : (⟨S64x1000000, .i32⟩ : BufTy).Contents (Elt F) → (⟨S64x1000000, .i32⟩ : BufTy).Contents (Elt F) → (⟨S64x1000000, .i32⟩ : BufTy).Contents (Elt F)),
  binary main_call0_call0_v54 main_call0_call0_v59 main_call0_call0_v60 (xori : (⟨S64x1000000, .i32⟩ : BufTy).Contents (Elt F) → (⟨S64x1000000, .i32⟩ : BufTy).Contents (Elt F) → (⟨S64x1000000, .i32⟩ : BufTy).Contents (Elt F)),
  binary main_call0_call0_v54 main_call0_call0_v60 main_call0_call0_v61 (addi : (⟨S64x1000000, .i32⟩ : BufTy).Contents (Elt F) → (⟨S64x1000000, .i32⟩ : BufTy).Contents (Elt F) → (⟨S64x1000000, .i32⟩ : BufTy).Contents (Elt F)),
  nullary main_call0_call0_c_15 ((constantI S_ 32 24#32) : (⟨S_, .i32⟩ : BufTy).Contents (Elt F)),
  unary main_call0_call0_c_15 main_call0_call0_v62 ((broadcastInDim S64x1000000 ![] bcast_S_S64x1000000) : (⟨S_, .i32⟩ : BufTy).Contents (Elt F) → (⟨S64x1000000, .i32⟩ : BufTy).Contents (Elt F)),
  binary main_call0_call0_v60 main_call0_call0_v62 main_call0_call0_v63 (Host.shli : (⟨S64x1000000, .i32⟩ : BufTy).Contents (Elt F) → (⟨S64x1000000, .i32⟩ : BufTy).Contents (Elt F) → (⟨S64x1000000, .i32⟩ : BufTy).Contents (Elt F)),
  nullary main_call0_call0_c_16 ((constantI S_ 32 8#32) : (⟨S_, .i32⟩ : BufTy).Contents (Elt F)),
  unary main_call0_call0_c_16 main_call0_call0_v64 ((broadcastInDim S64x1000000 ![] bcast_S_S64x1000000) : (⟨S_, .i32⟩ : BufTy).Contents (Elt F) → (⟨S64x1000000, .i32⟩ : BufTy).Contents (Elt F)),
  binary main_call0_call0_v60 main_call0_call0_v64 main_call0_call0_v65 (Host.shrui : (⟨S64x1000000, .i32⟩ : BufTy).Contents (Elt F) → (⟨S64x1000000, .i32⟩ : BufTy).Contents (Elt F) → (⟨S64x1000000, .i32⟩ : BufTy).Contents (Elt F)),
  binary main_call0_call0_v63 main_call0_call0_v65 main_call0_call0_v66 (ori : (⟨S64x1000000, .i32⟩ : BufTy).Contents (Elt F) → (⟨S64x1000000, .i32⟩ : BufTy).Contents (Elt F) → (⟨S64x1000000, .i32⟩ : BufTy).Contents (Elt F)),
  binary main_call0_call0_v61 main_call0_call0_v66 main_call0_call0_v67 (xori : (⟨S64x1000000, .i32⟩ : BufTy).Contents (Elt F) → (⟨S64x1000000, .i32⟩ : BufTy).Contents (Elt F) → (⟨S64x1000000, .i32⟩ : BufTy).Contents (Elt F)),
  unary main_call0_call0_v1 main_call0_call0_v68 ((broadcastInDim S64x1000000 ![] bcast_S_S64x1000000) : (⟨S_, .i32⟩ : BufTy).Contents (Elt F) → (⟨S64x1000000, .i32⟩ : BufTy).Contents (Elt F)),
  binary main_call0_call0_v61 main_call0_call0_v68 main_call0_call0_v69 (addi : (⟨S64x1000000, .i32⟩ : BufTy).Contents (Elt F) → (⟨S64x1000000, .i32⟩ : BufTy).Contents (Elt F) → (⟨S64x1000000, .i32⟩ : BufTy).Contents (Elt F)),
  unary main_call0_v5 main_call0_call0_v70 ((broadcastInDim S64x1000000 ![] bcast_S_S64x1000000) : (⟨S_, .i32⟩ : BufTy).Contents (Elt F) → (⟨S64x1000000, .i32⟩ : BufTy).Contents (Elt F)),
  binary main_call0_call0_v67 main_call0_call0_v70 main_call0_call0_v71 (addi : (⟨S64x1000000, .i32⟩ : BufTy).Contents (Elt F) → (⟨S64x1000000, .i32⟩ : BufTy).Contents (Elt F) → (⟨S64x1000000, .i32⟩ : BufTy).Contents (Elt F)),
  nullary main_call0_call0_c_17 ((constantI S_ 32 2#32) : (⟨S_, .i32⟩ : BufTy).Contents (Elt F)),
  unary main_call0_call0_c_17 main_call0_call0_v72 ((broadcastInDim S64x1000000 ![] bcast_S_S64x1000000) : (⟨S_, .i32⟩ : BufTy).Contents (Elt F) → (⟨S64x1000000, .i32⟩ : BufTy).Contents (Elt F)),
  binary main_call0_call0_v71 main_call0_call0_v72 main_call0_call0_v73 (addi : (⟨S64x1000000, .i32⟩ : BufTy).Contents (Elt F) → (⟨S64x1000000, .i32⟩ : BufTy).Contents (Elt F) → (⟨S64x1000000, .i32⟩ : BufTy).Contents (Elt F)),
  binary main_call0_call0_v69 main_call0_call0_v73 main_call0_call0_v74 (addi : (⟨S64x1000000, .i32⟩ : BufTy).Contents (Elt F) → (⟨S64x1000000, .i32⟩ : BufTy).Contents (Elt F) → (⟨S64x1000000, .i32⟩ : BufTy).Contents (Elt F)),
  nullary main_call0_call0_c_18 ((constantI S_ 32 13#32) : (⟨S_, .i32⟩ : BufTy).Contents (Elt F)),
  unary main_call0_call0_c_18 main_call0_call0_v75 ((broadcastInDim S64x1000000 ![] bcast_S_S64x1000000) : (⟨S_, .i32⟩ : BufTy).Contents (Elt F) → (⟨S64x1000000, .i32⟩ : BufTy).Contents (Elt F)),
  binary main_call0_call0_v73 main_call0_call0_v75 main_call0_call0_v76 (Host.shli : (⟨S64x1000000, .i32⟩ : BufTy).Contents (Elt F) → (⟨S64x1000000, .i32⟩ : BufTy).Contents (Elt F) → (⟨S64x1000000, .i32⟩ : BufTy).Contents (Elt F)),
  nullary main_call0_call0_c_19 ((constantI S_ 32 19#32) : (⟨S_, .i32⟩ : BufTy).Contents (Elt F)),
  unary main_call0_call0_c_19 main_call0_call0_v77 ((broadcastInDim S64x1000000 ![] bcast_S_S64x1000000) : (⟨S_, .i32⟩ : BufTy).Contents (Elt F) → (⟨S64x1000000, .i32⟩ : BufTy).Contents (Elt F)),
  binary main_call0_call0_v73 main_call0_call0_v77 main_call0_call0_v78 (Host.shrui : (⟨S64x1000000, .i32⟩ : BufTy).Contents (Elt F) → (⟨S64x1000000, .i32⟩ : BufTy).Contents (Elt F) → (⟨S64x1000000, .i32⟩ : BufTy).Contents (Elt F)),
  binary main_call0_call0_v76 main_call0_call0_v78 main_call0_call0_v79 (ori : (⟨S64x1000000, .i32⟩ : BufTy).Contents (Elt F) → (⟨S64x1000000, .i32⟩ : BufTy).Contents (Elt F) → (⟨S64x1000000, .i32⟩ : BufTy).Contents (Elt F)),
  binary main_call0_call0_v74 main_call0_call0_v79 main_call0_call0_v80 (xori : (⟨S64x1000000, .i32⟩ : BufTy).Contents (Elt F) → (⟨S64x1000000, .i32⟩ : BufTy).Contents (Elt F) → (⟨S64x1000000, .i32⟩ : BufTy).Contents (Elt F)),
  binary main_call0_call0_v74 main_call0_call0_v80 main_call0_call0_v81 (addi : (⟨S64x1000000, .i32⟩ : BufTy).Contents (Elt F) → (⟨S64x1000000, .i32⟩ : BufTy).Contents (Elt F) → (⟨S64x1000000, .i32⟩ : BufTy).Contents (Elt F)),
  nullary main_call0_call0_c_20 ((constantI S_ 32 15#32) : (⟨S_, .i32⟩ : BufTy).Contents (Elt F)),
  unary main_call0_call0_c_20 main_call0_call0_v82 ((broadcastInDim S64x1000000 ![] bcast_S_S64x1000000) : (⟨S_, .i32⟩ : BufTy).Contents (Elt F) → (⟨S64x1000000, .i32⟩ : BufTy).Contents (Elt F)),
  binary main_call0_call0_v80 main_call0_call0_v82 main_call0_call0_v83 (Host.shli : (⟨S64x1000000, .i32⟩ : BufTy).Contents (Elt F) → (⟨S64x1000000, .i32⟩ : BufTy).Contents (Elt F) → (⟨S64x1000000, .i32⟩ : BufTy).Contents (Elt F)),
  nullary main_call0_call0_c_21 ((constantI S_ 32 17#32) : (⟨S_, .i32⟩ : BufTy).Contents (Elt F)),
  unary main_call0_call0_c_21 main_call0_call0_v84 ((broadcastInDim S64x1000000 ![] bcast_S_S64x1000000) : (⟨S_, .i32⟩ : BufTy).Contents (Elt F) → (⟨S64x1000000, .i32⟩ : BufTy).Contents (Elt F)),
  binary main_call0_call0_v80 main_call0_call0_v84 main_call0_call0_v85 (Host.shrui : (⟨S64x1000000, .i32⟩ : BufTy).Contents (Elt F) → (⟨S64x1000000, .i32⟩ : BufTy).Contents (Elt F) → (⟨S64x1000000, .i32⟩ : BufTy).Contents (Elt F)),
  binary main_call0_call0_v83 main_call0_call0_v85 main_call0_call0_v86 (ori : (⟨S64x1000000, .i32⟩ : BufTy).Contents (Elt F) → (⟨S64x1000000, .i32⟩ : BufTy).Contents (Elt F) → (⟨S64x1000000, .i32⟩ : BufTy).Contents (Elt F)),
  binary main_call0_call0_v81 main_call0_call0_v86 main_call0_call0_v87 (xori : (⟨S64x1000000, .i32⟩ : BufTy).Contents (Elt F) → (⟨S64x1000000, .i32⟩ : BufTy).Contents (Elt F) → (⟨S64x1000000, .i32⟩ : BufTy).Contents (Elt F)),
  binary main_call0_call0_v81 main_call0_call0_v87 main_call0_call0_v88 (addi : (⟨S64x1000000, .i32⟩ : BufTy).Contents (Elt F) → (⟨S64x1000000, .i32⟩ : BufTy).Contents (Elt F) → (⟨S64x1000000, .i32⟩ : BufTy).Contents (Elt F)),
  nullary main_call0_call0_c_22 ((constantI S_ 32 26#32) : (⟨S_, .i32⟩ : BufTy).Contents (Elt F)),
  unary main_call0_call0_c_22 main_call0_call0_v89 ((broadcastInDim S64x1000000 ![] bcast_S_S64x1000000) : (⟨S_, .i32⟩ : BufTy).Contents (Elt F) → (⟨S64x1000000, .i32⟩ : BufTy).Contents (Elt F)),
  binary main_call0_call0_v87 main_call0_call0_v89 main_call0_call0_v90 (Host.shli : (⟨S64x1000000, .i32⟩ : BufTy).Contents (Elt F) → (⟨S64x1000000, .i32⟩ : BufTy).Contents (Elt F) → (⟨S64x1000000, .i32⟩ : BufTy).Contents (Elt F)),
  nullary main_call0_call0_c_23 ((constantI S_ 32 6#32) : (⟨S_, .i32⟩ : BufTy).Contents (Elt F)),
  unary main_call0_call0_c_23 main_call0_call0_v91 ((broadcastInDim S64x1000000 ![] bcast_S_S64x1000000) : (⟨S_, .i32⟩ : BufTy).Contents (Elt F) → (⟨S64x1000000, .i32⟩ : BufTy).Contents (Elt F)),
  binary main_call0_call0_v87 main_call0_call0_v91 main_call0_call0_v92 (Host.shrui : (⟨S64x1000000, .i32⟩ : BufTy).Contents (Elt F) → (⟨S64x1000000, .i32⟩ : BufTy).Contents (Elt F) → (⟨S64x1000000, .i32⟩ : BufTy).Contents (Elt F)),
  binary main_call0_call0_v90 main_call0_call0_v92 main_call0_call0_v93 (ori : (⟨S64x1000000, .i32⟩ : BufTy).Contents (Elt F) → (⟨S64x1000000, .i32⟩ : BufTy).Contents (Elt F) → (⟨S64x1000000, .i32⟩ : BufTy).Contents (Elt F)),
  binary main_call0_call0_v88 main_call0_call0_v93 main_call0_call0_v94 (xori : (⟨S64x1000000, .i32⟩ : BufTy).Contents (Elt F) → (⟨S64x1000000, .i32⟩ : BufTy).Contents (Elt F) → (⟨S64x1000000, .i32⟩ : BufTy).Contents (Elt F))]

/-- The counter hash, third part. -/
def tfOps2 : List (HloOp τ sig (Elt F)) := [
  binary main_call0_call0_v88 main_call0_call0_v94 main_call0_call0_v95 (addi : (⟨S64x1000000, .i32⟩ : BufTy).Contents (Elt F) → (⟨S64x1000000, .i32⟩ : BufTy).Contents (Elt F) → (⟨S64x1000000, .i32⟩ : BufTy).Contents (Elt F)),
  nullary main_call0_call0_c_24 ((constantI S_ 32 6#32) : (⟨S_, .i32⟩ : BufTy).Contents (Elt F)),
  unary main_call0_call0_c_24 main_call0_call0_v96 ((broadcastInDim S64x1000000 ![] bcast_S_S64x1000000) : (⟨S_, .i32⟩ : BufTy).Contents (Elt F) → (⟨S64x1000000, .i32⟩ : BufTy).Contents (Elt F)),
  binary main_call0_call0_v94 main_call0_call0_v96 main_call0_call0_v97 (Host.shli : (⟨S64x1000000, .i32⟩ : BufTy).Contents (Elt F) → (⟨S64x1000000, .i32⟩ : BufTy).Contents (Elt F) → (⟨S64x1000000, .i32⟩ : BufTy).Contents (Elt F)),
  nullary main_call0_call0_c_25 ((constantI S_ 32 26#32) : (⟨S_, .i32⟩ : BufTy).Contents (Elt F)),
  unary main_call0_call0_c_25 main_call0_call0_v98 ((broadcastInDim S64x1000000 ![] bcast_S_S64x1000000) : (⟨S_, .i32⟩ : BufTy).Contents (Elt F) → (⟨S64x1000000, .i32⟩ : BufTy).Contents (Elt F)),
  binary main_call0_call0_v94 main_call0_call0_v98 main_call0_call0_v99 (Host.shrui : (⟨S64x1000000, .i32⟩ : BufTy).Contents (Elt F) → (⟨S64x1000000, .i32⟩ : BufTy).Contents (Elt F) → (⟨S64x1000000, .i32⟩ : BufTy).Contents (Elt F)),
  binary main_call0_call0_v97 main_call0_call0_v99 main_call0_call0_v100 (ori : (⟨S64x1000000, .i32⟩ : BufTy).Contents (Elt F) → (⟨S64x1000000, .i32⟩ : BufTy).Contents (Elt F) → (⟨S64x1000000, .i32⟩ : BufTy).Contents (Elt F)),
  binary main_call0_call0_v95 main_call0_call0_v100 main_call0_call0_v101 (xori : (⟨S64x1000000, .i32⟩ : BufTy).Contents (Elt F) → (⟨S64x1000000, .i32⟩ : BufTy).Contents (Elt F) → (⟨S64x1000000, .i32⟩ : BufTy).Contents (Elt F)),
  unary main_call0_v5 main_call0_call0_v102 ((broadcastInDim S64x1000000 ![] bcast_S_S64x1000000) : (⟨S_, .i32⟩ : BufTy).Contents (Elt F) → (⟨S64x1000000, .i32⟩ : BufTy).Contents (Elt F)),
  binary main_call0_call0_v95 main_call0_call0_v102 main_call0_call0_v103 (addi : (⟨S64x1000000, .i32⟩ : BufTy).Contents (Elt F) → (⟨S64x1000000, .i32⟩ : BufTy).Contents (Elt F) → (⟨S64x1000000, .i32⟩ : BufTy).Contents (Elt F)),
  unary main_call0_v7 main_call0_call0_v104 ((broadcastInDim S64x1000000 ![] bcast_S_S64x1000000) : (⟨S_, .i32⟩ : BufTy).Contents (Elt F) → (⟨S64x1000000, .i32⟩ : BufTy).Contents (Elt F)),
  binary main_call0_call0_v101 main_call0_call0_v104 main_call0_call0_v105 (addi : (⟨S64x1000000, .i32⟩ : BufTy).Contents (Elt F) → (⟨S64x1000000, .i32⟩ : BufTy).Contents (Elt F) → (⟨S64x1000000, .i32⟩ : BufTy).Contents (Elt F)),
  nullary main_call0_call0_c_26 ((constantI S_ 32 3#32) : (⟨S_, .i32⟩ : BufTy).Contents (Elt F)),
  unary main_call0_call0_c_26 main_call0_call0_v106 ((broadcastInDim S64x1000000 ![] bcast_S_S64x1000000) : (⟨S_, .i32⟩ : BufTy).Contents (Elt F) → (⟨S64x1000000, .i32⟩ : BufTy).Contents (Elt F)),
  binary main_call0_call0_v105 main_call0_call0_v106 main_call0_call0_v107 (addi : (⟨S64x1000000, .i32⟩ : BufTy).Contents (Elt F) → (⟨S64x1000000, .i32⟩ : BufTy).Contents (Elt F) → (⟨S64x1000000, .i32⟩ : BufTy).Contents (Elt F)),
  binary main_call0_call0_v103 main_call0_call0_v107 main_call0_call0_v108 (addi : (⟨S64x1000000, .i32⟩ : BufTy).Contents (Elt F) → (⟨S64x1000000, .i32⟩ : BufTy).Contents (Elt F) → (⟨S64x1000000, .i32⟩ : BufTy).Contents (Elt F)),
  nullary main_call0_call0_c_27 ((constantI S_ 32 17#32) : (⟨S_, .i32⟩ : BufTy).Contents (Elt F)),
  unary main_call0_call0_c_27 main_call0_call0_v109 ((broadcastInDim S64x1000000 ![] bcast_S_S64x1000000) : (⟨S_, .i32⟩ : BufTy).Contents (Elt F) → (⟨S64x1000000, .i32⟩ : BufTy).Contents (Elt F)),
  binary main_call0_call0_v107 main_call0_call0_v109 main_call0_call0_v110 (Host.shli : (⟨S64x1000000, .i32⟩ : BufTy).Contents (Elt F) → (⟨S64x1000000, .i32⟩ : BufTy).Contents (Elt F) → (⟨S64x1000000, .i32⟩ : BufTy).Contents (Elt F)),
  nullary main_call0_call0_c_28 ((constantI S_ 32 15#32) : (⟨S_, .i32⟩ : BufTy).Contents (Elt F)),
  unary main_call0_call0_c_28 main_call0_call0_v111 ((broadcastInDim S64x1000000 ![] bcast_S_S64x1000000) : (⟨S_, .i32⟩ : BufTy).Contents (Elt F) → (⟨S64x1000000, .i32⟩ : BufTy).Contents (Elt F)),
  binary main_call0_call0_v107 main_call0_call0_v111 main_call0_call0_v112 (Host.shrui : (⟨S64x1000000, .i32⟩ : BufTy).Contents (Elt F) → (⟨S64x1000000, .i32⟩ : BufTy).Contents (Elt F) → (⟨S64x1000000, .i32⟩ : BufTy).Contents (Elt F)),
  binary main_call0_call0_v110 main_call0_call0_v112 main_call0_call0_v113 (ori : (⟨S64x1000000, .i32⟩ : BufTy).Contents (Elt F) → (⟨S64x1000000, .i32⟩ : BufTy).Contents (Elt F) → (⟨S64x1000000, .i32⟩ : BufTy).Contents (Elt F)),
  binary main_call0_call0_v108 main_call0_call0_v113 main_call0_call0_v114 (xori : (⟨S64x1000000, .i32⟩ : BufTy).Contents (Elt F) → (⟨S64x1000000, .i32⟩ : BufTy).Contents (Elt F) → (⟨S64x1000000, .i32⟩ : BufTy).Contents (Elt F)),
  binary main_call0_call0_v108 main_call0_call0_v114 main_call0_call0_v115 (addi : (⟨S64x1000000, .i32⟩ : BufTy).Contents (Elt F) → (⟨S64x1000000, .i32⟩ : BufTy).Contents (Elt F) → (⟨S64x1000000, .i32⟩ : BufTy).Contents (Elt F)),
  nullary main_call0_call0_c_29 ((constantI S_ 32 29#32) : (⟨S_, .i32⟩ : BufTy).Contents (Elt F)),
  unary main_call0_call0_c_29 main_call0_call0_v116 ((broadcastInDim S64x1000000 ![] bcast_S_S64x1000000) : (⟨S_, .i32⟩ : BufTy).Contents (Elt F) → (⟨S64x1000000, .i32⟩ : BufTy).Contents (Elt F)),
  binary main_call0_call0_v114 main_call0_call0_v116 main_call0_call0_v117 (Host.shli : (⟨S64x1000000, .i32⟩ : BufTy).Contents (Elt F) → (⟨S64x1000000, .i32⟩ : BufTy).Contents (Elt F) → (⟨S64x1000000, .i32⟩ : BufTy).Contents (Elt F)),
  nullary main_call0_call0_c_30 ((constantI S_ 32 3#32) : (⟨S_, .i32⟩ : BufTy).Contents (Elt F)),
  unary main_call0_call0_c_30 main_call0_call0_v118 ((broadcastInDim S64x1000000 ![] bcast_S_S64x1000000) : (⟨S_, .i32⟩ : BufTy).Contents (Elt F) → (⟨S64x1000000, .i32⟩ : BufTy).Contents (Elt F)),
  binary main_call0_call0_v114 main_call0_call0_v118 main_call0_call0_v119 (Host.shrui : (⟨S64x1000000, .i32⟩ : BufTy).Contents (Elt F) → (⟨S64x1000000, .i32⟩ : BufTy).Contents (Elt F) → (⟨S64x1000000, .i32⟩ : BufTy).Contents (Elt F)),
  binary main_call0_call0_v117 main_call0_call0_v119 main_call0_call0_v120 (ori : (⟨S64x1000000, .i32⟩ : BufTy).Contents (Elt F) → (⟨S64x1000000, .i32⟩ : BufTy).Contents (Elt F) → (⟨S64x1000000, .i32⟩ : BufTy).Contents (Elt F)),
  binary main_call0_call0_v115 main_call0_call0_v120 main_call0_call0_v121 (xori : (⟨S64x1000000, .i32⟩ : BufTy).Contents (Elt F) → (⟨S64x1000000, .i32⟩ : BufTy).Contents (Elt F) → (⟨S64x1000000, .i32⟩ : BufTy).Contents (Elt F)),
  binary main_call0_call0_v115 main_call0_call0_v121 main_call0_call0_v122 (addi : (⟨S64x1000000, .i32⟩ : BufTy).Contents (Elt F) → (⟨S64x1000000, .i32⟩ : BufTy).Contents (Elt F) → (⟨S64x1000000, .i32⟩ : BufTy).Contents (Elt F)),
  nullary main_call0_call0_c_31 ((constantI S_ 32 16#32) : (⟨S_, .i32⟩ : BufTy).Contents (Elt F)),
  unary main_call0_call0_c_31 main_call0_call0_v123 ((broadcastInDim S64x1000000 ![] bcast_S_S64x1000000) : (⟨S_, .i32⟩ : BufTy).Contents (Elt F) → (⟨S64x1000000, .i32⟩ : BufTy).Contents (Elt F)),
  binary main_call0_call0_v121 main_call0_call0_v123 main_call0_call0_v124 (Host.shli : (⟨S64x1000000, .i32⟩ : BufTy).Contents (Elt F) → (⟨S64x1000000, .i32⟩ : BufTy).Contents (Elt F) → (⟨S64x1000000, .i32⟩ : BufTy).Contents (Elt F)),
  nullary main_call0_call0_c_32 ((constantI S_ 32 16#32) : (⟨S_, .i32⟩ : BufTy).Contents (Elt F)),
  unary main_call0_call0_c_32 main_call0_call0_v125 ((broadcastInDim S64x1000000 ![] bcast_S_S64x1000000) : (⟨S_, .i32⟩ : BufTy).Contents (Elt F) → (⟨S64x1000000, .i32⟩ : BufTy).Contents (Elt F)),
  binary main_call0_call0_v121 main_call0_call0_v125 main_call0_call0_v126 (Host.shrui : (⟨S64x1000000, .i32⟩ : BufTy).Contents (Elt F) → (⟨S64x1000000, .i32⟩ : BufTy).Contents (Elt F) → (⟨S64x1000000, .i32⟩ : BufTy).Contents (Elt F)),
  binary main_call0_call0_v124 main_call0_call0_v126 main_call0_call0_v127 (ori : (⟨S64x1000000, .i32⟩ : BufTy).Contents (Elt F) → (⟨S64x1000000, .i32⟩ : BufTy).Contents (Elt F) → (⟨S64x1000000, .i32⟩ : BufTy).Contents (Elt F)),
  binary main_call0_call0_v122 main_call0_call0_v127 main_call0_call0_v128 (xori : (⟨S64x1000000, .i32⟩ : BufTy).Contents (Elt F) → (⟨S64x1000000, .i32⟩ : BufTy).Contents (Elt F) → (⟨S64x1000000, .i32⟩ : BufTy).Contents (Elt F)),
  binary main_call0_call0_v122 main_call0_call0_v128 main_call0_call0_v129 (addi : (⟨S64x1000000, .i32⟩ : BufTy).Contents (Elt F) → (⟨S64x1000000, .i32⟩ : BufTy).Contents (Elt F) → (⟨S64x1000000, .i32⟩ : BufTy).Contents (Elt F)),
  nullary main_call0_call0_c_33 ((constantI S_ 32 24#32) : (⟨S_, .i32⟩ : BufTy).Contents (Elt F)),
  unary main_call0_call0_c_33 main_call0_call0_v130 ((broadcastInDim S64x1000000 ![] bcast_S_S64x1000000) : (⟨S_, .i32⟩ : BufTy).Contents (Elt F) → (⟨S64x1000000, .i32⟩ : BufTy).Contents (Elt F)),
  binary main_call0_call0_v128 main_call0_call0_v130 main_call0_call0_v131 (Host.shli : (⟨S64x1000000, .i32⟩ : BufTy).Contents (Elt F) → (⟨S64x1000000, .i32⟩ : BufTy).Contents (Elt F) → (⟨S64x1000000, .i32⟩ : BufTy).Contents (Elt F)),
  nullary main_call0_call0_c_34 ((constantI S_ 32 8#32) : (⟨S_, .i32⟩ : BufTy).Contents (Elt F)),
  unary main_call0_call0_c_34 main_call0_call0_v132 ((broadcastInDim S64x1000000 ![] bcast_S_S64x1000000) : (⟨S_, .i32⟩ : BufTy).Contents (Elt F) → (⟨S64x1000000, .i32⟩ : BufTy).Contents (Elt F)),
  binary main_call0_call0_v128 main_call0_call0_v132 main_call0_call0_v133 (Host.shrui : (⟨S64x1000000, .i32⟩ : BufTy).Contents (Elt F) → (⟨S64x1000000, .i32⟩ : BufTy).Contents (Elt F) → (⟨S64x1000000, .i32⟩ : BufTy).Contents (Elt F)),
  binary main_call0_call0_v131 main_call0_call0_v133 main_call0_call0_v134 (ori : (⟨S64x1000000, .i32⟩ : BufTy).Contents (Elt F) → (⟨S64x1000000, .i32⟩ : BufTy).Contents (Elt F) → (⟨S64x1000000, .i32⟩ : BufTy).Contents (Elt F)),
  binary main_call0_call0_v129 main_call0_call0_v134 main_call0_call0_v135 (xori : (⟨S64x1000000, .i32⟩ : BufTy).Contents (Elt F) → (⟨S64x1000000, .i32⟩ : BufTy).Contents (Elt F) → (⟨S64x1000000, .i32⟩ : BufTy).Contents (Elt F)),
  unary main_call0_v7 main_call0_call0_v136 ((broadcastInDim S64x1000000 ![] bcast_S_S64x1000000) : (⟨S_, .i32⟩ : BufTy).Contents (Elt F) → (⟨S64x1000000, .i32⟩ : BufTy).Contents (Elt F)),
  binary main_call0_call0_v129 main_call0_call0_v136 main_call0_call0_v137 (addi : (⟨S64x1000000, .i32⟩ : BufTy).Contents (Elt F) → (⟨S64x1000000, .i32⟩ : BufTy).Contents (Elt F) → (⟨S64x1000000, .i32⟩ : BufTy).Contents (Elt F)),
  unary main_call0_call0_v1 main_call0_call0_v138 ((broadcastInDim S64x1000000 ![] bcast_S_S64x1000000) : (⟨S_, .i32⟩ : BufTy).Contents (Elt F) → (⟨S64x1000000, .i32⟩ : BufTy).Contents (Elt F)),
  binary main_call0_call0_v135 main_call0_call0_v138 main_call0_call0_v139 (addi : (⟨S64x1000000, .i32⟩ : BufTy).Contents (Elt F) → (⟨S64x1000000, .i32⟩ : BufTy).Contents (Elt F) → (⟨S64x1000000, .i32⟩ : BufTy).Contents (Elt F)),
  nullary main_call0_call0_c_35 ((constantI S_ 32 4#32) : (⟨S_, .i32⟩ : BufTy).Contents (Elt F)),
  unary main_call0_call0_c_35 main_call0_call0_v140 ((broadcastInDim S64x1000000 ![] bcast_S_S64x1000000) : (⟨S_, .i32⟩ : BufTy).Contents (Elt F) → (⟨S64x1000000, .i32⟩ : BufTy).Contents (Elt F)),
  binary main_call0_call0_v139 main_call0_call0_v140 main_call0_call0_v141 (addi : (⟨S64x1000000, .i32⟩ : BufTy).Contents (Elt F) → (⟨S64x1000000, .i32⟩ : BufTy).Contents (Elt F) → (⟨S64x1000000, .i32⟩ : BufTy).Contents (Elt F)),
  binary main_call0_call0_v137 main_call0_call0_v141 main_call0_call0_v142 (addi : (⟨S64x1000000, .i32⟩ : BufTy).Contents (Elt F) → (⟨S64x1000000, .i32⟩ : BufTy).Contents (Elt F) → (⟨S64x1000000, .i32⟩ : BufTy).Contents (Elt F))]

/-- The counter hash, last part. -/
def tfOps3 : List (HloOp τ sig (Elt F)) := [
  nullary main_call0_call0_c_36 ((constantI S_ 32 13#32) : (⟨S_, .i32⟩ : BufTy).Contents (Elt F)),
  unary main_call0_call0_c_36 main_call0_call0_v143 ((broadcastInDim S64x1000000 ![] bcast_S_S64x1000000) : (⟨S_, .i32⟩ : BufTy).Contents (Elt F) → (⟨S64x1000000, .i32⟩ : BufTy).Contents (Elt F)),
  binary main_call0_call0_v141 main_call0_call0_v143 main_call0_call0_v144 (Host.shli : (⟨S64x1000000, .i32⟩ : BufTy).Contents (Elt F) → (⟨S64x1000000, .i32⟩ : BufTy).Contents (Elt F) → (⟨S64x1000000, .i32⟩ : BufTy).Contents (Elt F)),
  nullary main_call0_call0_c_37 ((constantI S_ 32 19#32) : (⟨S_, .i32⟩ : BufTy).Contents (Elt F)),
  unary main_call0_call0_c_37 main_call0_call0_v145 ((broadcastInDim S64x1000000 ![] bcast_S_S64x1000000) : (⟨S_, .i32⟩ : BufTy).Contents (Elt F) → (⟨S64x1000000, .i32⟩ : BufTy).Contents (Elt F)),
  binary main_call0_call0_v141 main_call0_call0_v145 main_call0_call0_v146 (Host.shrui : (⟨S64x1000000, .i32⟩ : BufTy).Contents (Elt F) → (⟨S64x1000000, .i32⟩ : BufTy).Contents (Elt F) → (⟨S64x1000000, .i32⟩ : BufTy).Contents (Elt F)),
  binary main_call0_call0_v144 main_call0_call0_v146 main_call0_call0_v147 (ori : (⟨S64x1000000, .i32⟩ : BufTy).Contents (Elt F) → (⟨S64x1000000, .i32⟩ : BufTy).Contents (Elt F) → (⟨S64x1000000, .i32⟩ : BufTy).Contents (Elt F)),
  binary main_call0_call0_v142 main_call0_call0_v147 main_call0_call0_v148 (xori : (⟨S64x1000000, .i32⟩ : BufTy).Contents (Elt F) → (⟨S64x1000000, .i32⟩ : BufTy).Contents (Elt F) → (⟨S64x1000000, .i32⟩ : BufTy).Contents (Elt F)),
  binary main_call0_call0_v142 main_call0_call0_v148 main_call0_call0_v149 (addi : (⟨S64x1000000, .i32⟩ : BufTy).Contents (Elt F) → (⟨S64x1000000, .i32⟩ : BufTy).Contents (Elt F) → (⟨S64x1000000, .i32⟩ : BufTy).Contents (Elt F)),
  nullary main_call0_call0_c_38 ((constantI S_ 32 15#32) : (⟨S_, .i32⟩ : BufTy).Contents (Elt F)),
  unary main_call0_call0_c_38 main_call0_call0_v150 ((broadcastInDim S64x1000000 ![] bcast_S_S64x1000000) : (⟨S_, .i32⟩ : BufTy).Contents (Elt F) → (⟨S64x1000000, .i32⟩ : BufTy).Contents (Elt F)),
  binary main_call0_call0_v148 main_call0_call0_v150 main_call0_call0_v151 (Host.shli : (⟨S64x1000000, .i32⟩ : BufTy).Contents (Elt F) → (⟨S64x1000000, .i32⟩ : BufTy).Contents (Elt F) → (⟨S64x1000000, .i32⟩ : BufTy).Contents (Elt F)),
  nullary main_call0_call0_c_39 ((constantI S_ 32 17#32) : (⟨S_, .i32⟩ : BufTy).Contents (Elt F)),
  unary main_call0_call0_c_39 main_call0_call0_v152 ((broadcastInDim S64x1000000 ![] bcast_S_S64x1000000) : (⟨S_, .i32⟩ : BufTy).Contents (Elt F) → (⟨S64x1000000, .i32⟩ : BufTy).Contents (Elt F)),
  binary main_call0_call0_v148 main_call0_call0_v152 main_call0_call0_v153 (Host.shrui : (⟨S64x1000000, .i32⟩ : BufTy).Contents (Elt F) → (⟨S64x1000000, .i32⟩ : BufTy).Contents (Elt F) → (⟨S64x1000000, .i32⟩ : BufTy).Contents (Elt F)),
  binary main_call0_call0_v151 main_call0_call0_v153 main_call0_call0_v154 (ori : (⟨S64x1000000, .i32⟩ : BufTy).Contents (Elt F) → (⟨S64x1000000, .i32⟩ : BufTy).Contents (Elt F) → (⟨S64x1000000, .i32⟩ : BufTy).Contents (Elt F)),
  binary main_call0_call0_v149 main_call0_call0_v154 main_call0_call0_v155 (xori : (⟨S64x1000000, .i32⟩ : BufTy).Contents (Elt F) → (⟨S64x1000000, .i32⟩ : BufTy).Contents (Elt F) → (⟨S64x1000000, .i32⟩ : BufTy).Contents (Elt F)),
  binary main_call0_call0_v149 main_call0_call0_v155 main_call0_call0_v156 (addi : (⟨S64x1000000, .i32⟩ : BufTy).Contents (Elt F) → (⟨S64x1000000, .i32⟩ : BufTy).Contents (Elt F) → (⟨S64x1000000, .i32⟩ : BufTy).Contents (Elt F)),
  nullary main_call0_call0_c_40 ((constantI S_ 32 26#32) : (⟨S_, .i32⟩ : BufTy).Contents (Elt F)),
  unary main_call0_call0_c_40 main_call0_call0_v157 ((broadcastInDim S64x1000000 ![] bcast_S_S64x1000000) : (⟨S_, .i32⟩ : BufTy).Contents (Elt F) → (⟨S64x1000000, .i32⟩ : BufTy).Contents (Elt F)),
  binary main_call0_call0_v155 main_call0_call0_v157 main_call0_call0_v158 (Host.shli : (⟨S64x1000000, .i32⟩ : BufTy).Contents (Elt F) → (⟨S64x1000000, .i32⟩ : BufTy).Contents (Elt F) → (⟨S64x1000000, .i32⟩ : BufTy).Contents (Elt F)),
  nullary main_call0_call0_c_41 ((constantI S_ 32 6#32) : (⟨S_, .i32⟩ : BufTy).Contents (Elt F)),
  unary main_call0_call0_c_41 main_call0_call0_v159 ((broadcastInDim S64x1000000 ![] bcast_S_S64x1000000) : (⟨S_, .i32⟩ : BufTy).Contents (Elt F) → (⟨S64x1000000, .i32⟩ : BufTy).Contents (Elt F)),
  binary main_call0_call0_v155 main_call0_call0_v159 main_call0_call0_v160 (Host.shrui : (⟨S64x1000000, .i32⟩ : BufTy).Contents (Elt F) → (⟨S64x1000000, .i32⟩ : BufTy).Contents (Elt F) → (⟨S64x1000000, .i32⟩ : BufTy).Contents (Elt F)),
  binary main_call0_call0_v158 main_call0_call0_v160 main_call0_call0_v161 (ori : (⟨S64x1000000, .i32⟩ : BufTy).Contents (Elt F) → (⟨S64x1000000, .i32⟩ : BufTy).Contents (Elt F) → (⟨S64x1000000, .i32⟩ : BufTy).Contents (Elt F)),
  binary main_call0_call0_v156 main_call0_call0_v161 main_call0_call0_v162 (xori : (⟨S64x1000000, .i32⟩ : BufTy).Contents (Elt F) → (⟨S64x1000000, .i32⟩ : BufTy).Contents (Elt F) → (⟨S64x1000000, .i32⟩ : BufTy).Contents (Elt F)),
  binary main_call0_call0_v156 main_call0_call0_v162 main_call0_call0_v163 (addi : (⟨S64x1000000, .i32⟩ : BufTy).Contents (Elt F) → (⟨S64x1000000, .i32⟩ : BufTy).Contents (Elt F) → (⟨S64x1000000, .i32⟩ : BufTy).Contents (Elt F)),
  nullary main_call0_call0_c_42 ((constantI S_ 32 6#32) : (⟨S_, .i32⟩ : BufTy).Contents (Elt F)),
  unary main_call0_call0_c_42 main_call0_call0_v164 ((broadcastInDim S64x1000000 ![] bcast_S_S64x1000000) : (⟨S_, .i32⟩ : BufTy).Contents (Elt F) → (⟨S64x1000000, .i32⟩ : BufTy).Contents (Elt F)),
  binary main_call0_call0_v162 main_call0_call0_v164 main_call0_call0_v165 (Host.shli : (⟨S64x1000000, .i32⟩ : BufTy).Contents (Elt F) → (⟨S64x1000000, .i32⟩ : BufTy).Contents (Elt F) → (⟨S64x1000000, .i32⟩ : BufTy).Contents (Elt F)),
  nullary main_call0_call0_c_43 ((constantI S_ 32 26#32) : (⟨S_, .i32⟩ : BufTy).Contents (Elt F)),
  unary main_call0_call0_c_43 main_call0_call0_v166 ((broadcastInDim S64x1000000 ![] bcast_S_S64x1000000) : (⟨S_, .i32⟩ : BufTy).Contents (Elt F) → (⟨S64x1000000, .i32⟩ : BufTy).Contents (Elt F)),
  binary main_call0_call0_v162 main_call0_call0_v166 main_call0_call0_v167 (Host.shrui : (⟨S64x1000000, .i32⟩ : BufTy).Contents (Elt F) → (⟨S64x1000000, .i32⟩ : BufTy).Contents (Elt F) → (⟨S64x1000000, .i32⟩ : BufTy).Contents (Elt F)),
  binary main_call0_call0_v165 main_call0_call0_v167 main_call0_call0_v168 (ori : (⟨S64x1000000, .i32⟩ : BufTy).Contents (Elt F) → (⟨S64x1000000, .i32⟩ : BufTy).Contents (Elt F) → (⟨S64x1000000, .i32⟩ : BufTy).Contents (Elt F)),
  binary main_call0_call0_v163 main_call0_call0_v168 main_call0_call0_v169 (xori : (⟨S64x1000000, .i32⟩ : BufTy).Contents (Elt F) → (⟨S64x1000000, .i32⟩ : BufTy).Contents (Elt F) → (⟨S64x1000000, .i32⟩ : BufTy).Contents (Elt F)),
  unary main_call0_call0_v1 main_call0_call0_v170 ((broadcastInDim S64x1000000 ![] bcast_S_S64x1000000) : (⟨S_, .i32⟩ : BufTy).Contents (Elt F) → (⟨S64x1000000, .i32⟩ : BufTy).Contents (Elt F)),
  binary main_call0_call0_v163 main_call0_call0_v170 main_call0_v19_0 (addi : (⟨S64x1000000, .i32⟩ : BufTy).Contents (Elt F) → (⟨S64x1000000, .i32⟩ : BufTy).Contents (Elt F) → (⟨S64x1000000, .i32⟩ : BufTy).Contents (Elt F)),
  unary main_call0_v5 main_call0_call0_v172 ((broadcastInDim S64x1000000 ![] bcast_S_S64x1000000) : (⟨S_, .i32⟩ : BufTy).Contents (Elt F) → (⟨S64x1000000, .i32⟩ : BufTy).Contents (Elt F)),
  binary main_call0_call0_v169 main_call0_call0_v172 main_call0_call0_v173 (addi : (⟨S64x1000000, .i32⟩ : BufTy).Contents (Elt F) → (⟨S64x1000000, .i32⟩ : BufTy).Contents (Elt F) → (⟨S64x1000000, .i32⟩ : BufTy).Contents (Elt F)),
  nullary main_call0_call0_c_44 ((constantI S_ 32 5#32) : (⟨S_, .i32⟩ : BufTy).Contents (Elt F)),
  unary main_call0_call0_c_44 main_call0_call0_v174 ((broadcastInDim S64x1000000 ![] bcast_S_S64x1000000) : (⟨S_, .i32⟩ : BufTy).Contents (Elt F) → (⟨S64x1000000, .i32⟩ : BufTy).Contents (Elt F)),
  binary main_call0_call0_v173 main_call0_call0_v174 main_call0_v19_1 (addi : (⟨S64x1000000, .i32⟩ : BufTy).Contents (Elt F) → (⟨S64x1000000, .i32⟩ : BufTy).Contents (Elt F) → (⟨S64x1000000, .i32⟩ : BufTy).Contents (Elt F))]

/-- The uniform numbers, the noise and the sum. -/
def gumOps : List (HloOp τ sig (Elt F)) := [
  binary main_call0_v19_0 main_call0_v19_1 main_call0_v20 (xori : (⟨S64x1000000, .i32⟩ : BufTy).Contents (Elt F) → (⟨S64x1000000, .i32⟩ : BufTy).Contents (Elt F) → (⟨S64x1000000, .i32⟩ : BufTy).Contents (Elt F)),
  nullary main_call0_c_2 ((constantI S_ 32 9#32) : (⟨S_, .i32⟩ : BufTy).Contents (Elt F)),
  unary main_call0_c_2 main_call0_v21 ((broadcastInDim S64x1000000 ![] bcast_S_S64x1000000) : (⟨S_, .i32⟩ : BufTy).Contents (Elt F) → (⟨S64x1000000, .i32⟩ : BufTy).Contents (Elt F)),
  binary main_call0_v20 main_call0_v21 main_call0_v22 (Host.shrui : (⟨S64x1000000, .i32⟩ : BufTy).Contents (Elt F) → (⟨S64x1000000, .i32⟩ : BufTy).Contents (Elt F) → (⟨S64x1000000, .i32⟩ : BufTy).Contents (Elt F)),
  nullary main_call0_c_3 ((constantI S_ 32 1065353216#32) : (⟨S_, .i32⟩ : BufTy).Contents (Elt F)),
  unary main_call0_c_3 main_call0_v23 ((broadcastInDim S64x1000000 ![] bcast_S_S64x1000000) : (⟨S_, .i32⟩ : BufTy).Contents (Elt F) → (⟨S64x1000000, .i32⟩ : BufTy).Contents (Elt F)),
  binary main_call0_v22 main_call0_v23 main_call0_v24 (ori : (⟨S64x1000000, .i32⟩ : BufTy).Contents (Elt F) → (⟨S64x1000000, .i32⟩ : BufTy).Contents (Elt F) → (⟨S64x1000000, .i32⟩ : BufTy).Contents (Elt F)),
  unary main_call0_v24 main_call0_v25 ((bitcastToFloat (F := F) .f32) : (⟨S64x1000000, .i32⟩ : BufTy).Contents (Elt F) → (⟨S64x1000000, .f32⟩ : BufTy).Contents (Elt F)),
  nullary main_call0_cst ((constant S_ .f32 0x3F800000#32) : (⟨S_, .f32⟩ : BufTy).Contents (Elt F)),
  unary main_call0_cst main_call0_v26 ((broadcastInDim S64x1000000 ![] bcast_S_S64x1000000) : (⟨S_, .f32⟩ : BufTy).Contents (Elt F) → (⟨S64x1000000, .f32⟩ : BufTy).Contents (Elt F)),
  binary main_call0_v25 main_call0_v26 main_call0_v27 (subf : (⟨S64x1000000, .f32⟩ : BufTy).Contents (Elt F) → (⟨S64x1000000, .f32⟩ : BufTy).Contents (Elt F) → (⟨S64x1000000, .f32⟩ : BufTy).Contents (Elt F)),
  binary main_call0_v3 main_call0_v2 main_call0_v28 (subf : (⟨S1x1, .f32⟩ : BufTy).Contents (Elt F) → (⟨S1x1, .f32⟩ : BufTy).Contents (Elt F) → (⟨S1x1, .f32⟩ : BufTy).Contents (Elt F)),
  unary main_call0_v28 main_call0_v29 ((broadcastInDim S64x1000000 ![0, 1] bcast_S1x1_S64x1000000_0_1) : (⟨S1x1, .f32⟩ : BufTy).Contents (Elt F) → (⟨S64x1000000, .f32⟩ : BufTy).Contents (Elt F)),
  binary main_call0_v27 main_call0_v29 main_call0_v30 (mulf : (⟨S64x1000000, .f32⟩ : BufTy).Contents (Elt F) → (⟨S64x1000000, .f32⟩ : BufTy).Contents (Elt F) → (⟨S64x1000000, .f32⟩ : BufTy).Contents (Elt F)),
  unary main_call0_v2 main_call0_v31 ((broadcastInDim S64x1000000 ![0, 1] bcast_S1x1_S64x1000000_0_1) : (⟨S1x1, .f32⟩ : BufTy).Contents (Elt F) → (⟨S64x1000000, .f32⟩ : BufTy).Contents (Elt F)),
  binary main_call0_v30 main_call0_v31 main_call0_v32 (addf : (⟨S64x1000000, .f32⟩ : BufTy).Contents (Elt F) → (⟨S64x1000000, .f32⟩ : BufTy).Contents (Elt F) → (⟨S64x1000000, .f32⟩ : BufTy).Contents (Elt F)),
  unary main_call0_v2 main_call0_v33 ((broadcastInDim S64x1000000 ![0, 1] bcast_S1x1_S64x1000000_0_1) : (⟨S1x1, .f32⟩ : BufTy).Contents (Elt F) → (⟨S64x1000000, .f32⟩ : BufTy).Contents (Elt F)),
  binary main_call0_v33 main_call0_v32 main_v20 (maximumf : (⟨S64x1000000, .f32⟩ : BufTy).Contents (Elt F) → (⟨S64x1000000, .f32⟩ : BufTy).Contents (Elt F) → (⟨S64x1000000, .f32⟩ : BufTy).Contents (Elt F)),
  unary main_v20 main_v21 (Host.log : (⟨S64x1000000, .f32⟩ : BufTy).Contents (Elt F) → (⟨S64x1000000, .f32⟩ : BufTy).Contents (Elt F)),
  unary main_v21 main_v22 (Host.negf : (⟨S64x1000000, .f32⟩ : BufTy).Contents (Elt F) → (⟨S64x1000000, .f32⟩ : BufTy).Contents (Elt F)),
  unary main_v22 main_v23 (Host.log : (⟨S64x1000000, .f32⟩ : BufTy).Contents (Elt F) → (⟨S64x1000000, .f32⟩ : BufTy).Contents (Elt F)),
  unary main_v23 main_v24 (Host.negf : (⟨S64x1000000, .f32⟩ : BufTy).Contents (Elt F) → (⟨S64x1000000, .f32⟩ : BufTy).Contents (Elt F)),
  unary main_v12 main_v25 (Host.log : (⟨S64x1000000, .f32⟩ : BufTy).Contents (Elt F) → (⟨S64x1000000, .f32⟩ : BufTy).Contents (Elt F)),
  binary main_v25 main_v24 main_v26 (addf : (⟨S64x1000000, .f32⟩ : BufTy).Contents (Elt F) → (⟨S64x1000000, .f32⟩ : BufTy).Contents (Elt F) → (⟨S64x1000000, .f32⟩ : BufTy).Contents (Elt F))]

/-- The index of the largest entry. -/
def argOps : List (HloOp τ sig (Elt F)) := [
  nullary main_call1_v0 ((iotaInDim S64x1000000 32 1) : (⟨S64x1000000, .i32⟩ : BufTy).Contents (Elt F)),
  nullary main_call1_cst ((constant S_ .f32 0xFF800000#32) : (⟨S_, .f32⟩ : BufTy).Contents (Elt F)),
  nullary main_call1_c ((constantI S_ 32 0#32) : (⟨S_, .i32⟩ : BufTy).Contents (Elt F)),
  quaternary main_v26 main_call1_v0 main_call1_cst main_call1_c main_call1_v1_0 ((fun x y u v j => (Host.argReduce reducer_argmax_f32_i32 x y u v reducesTo_S64x1000000_S64_d1 h_S_ j).1) : (⟨S64x1000000, .f32⟩ : BufTy).Contents (Elt F) → (⟨S64x1000000, .i32⟩ : BufTy).Contents (Elt F) → (⟨S_, .f32⟩ : BufTy).Contents (Elt F) → (⟨S_, .i32⟩ : BufTy).Contents (Elt F) → (⟨S64, .f32⟩ : BufTy).Contents (Elt F)),
  quaternary main_v26 main_call1_v0 main_call1_cst main_call1_c main_v27 ((fun x y u v j => (Host.argReduce reducer_argmax_f32_i32 x y u v reducesTo_S64x1000000_S64_d1 h_S_ j).2) : (⟨S64x1000000, .f32⟩ : BufTy).Contents (Elt F) → (⟨S64x1000000, .i32⟩ : BufTy).Contents (Elt F) → (⟨S_, .f32⟩ : BufTy).Contents (Elt F) → (⟨S_, .i32⟩ : BufTy).Contents (Elt F) → (⟨S64, .i32⟩ : BufTy).Contents (Elt F)),
  unary main_v27 main_v28 (broadcastInDim S64x1 ![0] bcast_S64_S64x1_0 : (⟨S64, .i32⟩ : BufTy).Contents (Elt F) → (⟨S64x1, .i32⟩ : BufTy).Contents (Elt F))]

/-- The whole reference's operations. -/
def ops : List (HloOp τ sig (Elt F)) :=
  softOps ++ (keyOps ++ (tfOps0 ++ (tfOps1 ++ (tfOps2 ++ (tfOps3 ++ (gumOps ++ argOps))))))

set_option maxRecDepth 65536 in
set_option maxHeartbeats 0 in
/-- The reference is the sequence of those operations. -/
theorem main_eq (c : Dev nD) : main (F := F) c = seq ops := rfl

end Cert.ReferenceIdeal.Clean

end
-- ==== Proof.My.RefRun.lean ====
/-
  The whole reference run: from any memory with its counters at zero it terminates, the argument unchanged, and
  every buffer holds what the sequence of its operations leaves there.
-/
module

public import proofs.«01_k».proof.Proof.My.RefOps
public import Idealize.ShloMosaic.Lib.Quiescent

@[expose] public section

noncomputable section

namespace Cert.ReferenceIdeal.Clean

open Idealize.ShloMosaic Idealize.ShloMosaic.TcCoe Idealize.SL.Sem Idealize.ShloMosaic.StableHlo
open Cert.ReferenceIdeal Facts₀ Facts

variable {F : FTy → Type} [FloatOps F]
variable [Facts]

theorem scopedRefs_eq : (Finset.univ.filter fun b : Ref sig .tc => b.isScoped) = ∅ := by decide +kernel
theorem scopedSems_eq : (Finset.univ.filter fun sm : SemLoc sig => sm.isScoped .tc) = ∅ := by decide +kernel

/-- An operation touches the core's own buffers only and determines what it writes. -/
def Tame (op : HloOp τ sig (Elt F)) : Prop := op.bufs ⊆ tcRefs τ sig ∧ op.fresh = ∅

theorem tame_nullary (y : Ref sig .tc) (f : y.ty.Contents (Elt F)) (hy) : Tame (nullary (τ := τ) y f hy) :=
  ⟨nullary_bufs_sub .., rfl⟩

theorem tame_unary (x y : Ref sig .tc) (f : x.ty.Contents (Elt F) → y.ty.Contents (Elt F)) (hx hy) :
    Tame (unary (τ := τ) x y f hx hy) := ⟨unary_bufs_sub .., rfl⟩

theorem tame_binary (a b y : Ref sig .tc) (f : a.ty.Contents (Elt F) → b.ty.Contents (Elt F) → y.ty.Contents (Elt F))
    (ha hb hy) : Tame (binary (τ := τ) a b y f ha hb hy) := ⟨binary_bufs_sub .., rfl⟩

theorem tame_quaternary (a b c e y : Ref sig .tc)
    (f : a.ty.Contents (Elt F) → b.ty.Contents (Elt F) → c.ty.Contents (Elt F) → e.ty.Contents (Elt F) → y.ty.Contents (Elt F))
    (ha hb hc he hy) : Tame (quaternary (τ := τ) a b c e y f ha hb hc he hy) := ⟨quaternary_bufs_sub .., rfl⟩

theorem tame_reshape (x y : Ref sig .tc) (he hn hx hy) : Tame (F := F) (reshape (τ := τ) x y he hn hx hy) :=
  ⟨reshape_bufs_sub .., rfl⟩

/-- A line of tame operations. -/
def AllTame (l : List (HloOp τ sig (Elt F))) : Prop := ∀ op ∈ l, Tame op

theorem allTame_nil : AllTame (F := F) [] := fun _ h => absurd h List.not_mem_nil

theorem allTame_cons {op : HloOp τ sig (Elt F)} {l} (h : Tame op) (hl : AllTame l) : AllTame (op :: l) :=
  List.forall_mem_cons.mpr ⟨h, hl⟩

theorem allTame_append {l l' : List (HloOp τ sig (Elt F))} (h : AllTame l) (h' : AllTame l') : AllTame (l ++ l') :=
  List.forall_mem_append.mpr ⟨h, h'⟩

set_option maxRecDepth 65536 in
set_option maxHeartbeats 0 in
/-- Every operation of the reference is tame. -/
theorem ops_tame : AllTame (ops (F := F)) := by
  unfold ops softOps keyOps tfOps0 tfOps1 tfOps2 tfOps3 gumOps argOps
  repeat' with_reducible first
    | refine allTame_append ?_ ?_
    | refine allTame_cons ?_ ?_
    | exact tame_unary ..
    | exact tame_binary ..
    | exact tame_nullary ..
    | exact tame_reshape ..
    | exact tame_quaternary ..
    | exact allTame_nil

/-- The buffers at the end of the reference's run, from memory `m`. -/
def ended (m : (ℓ : Loc nD τ sig) → Buf (Elt F) ℓ) (c : Dev nD) : Valuation τ sig (Elt F) := after ops (launchContents m c)

/-- No operation writes the argument. -/
theorem ended_arg (m : (ℓ : Loc nD τ sig) → Buf (Elt F) ℓ) (c : Dev nD) :
    ended m c (Proc.devRef .tc main_arg0) = m ((c.tc : Thread nD τ).loc main_arg0) := by
  unfold ended ops
  after_reads_simp

/-- The reference's run. -/
theorem run (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)
         ∧ r.2.mem ((c.tc : Thread nD τ).loc main_v28) = ended m c (Proc.devRef .tc main_v28)) ∧ r.2.sem = fun _ => 0) :=
  (θ_run defs _ _).mono (fun r h => ⟨fun c => ⟨(h c main_arg0).trans (ended_arg m c), h c main_v28⟩,
      sem_eq_zero_of_no_sems (by decide) r.2⟩)
    (run_seq scopedRefs_eq scopedSems_eq defs main (fun _ => ops) main_eq
      (fun _ => List.forall_iff_forall_mem.mpr fun op h => (ops_tame op h).1) m ρ (fun _ op h => (ops_tame op h).2))

end Cert.ReferenceIdeal.Clean

end
-- ==== Proof.My.Frames.lean ====
/-
  The three frames: the kernel at its own float formats, the kernel over the extended reals, and the reference.
-/
module

public import proofs.«01_k».proof.Defs
public import proofs.«01_k».proof.Proof.My.KernelFrame
public import proofs.«01_k».proof.Proof.My.RefRun

@[expose] public section

noncomputable section

namespace Cert.Clean

open Idealize.ShloMosaic Idealize.SL.Sem

/-- The kernel runs and leaves its argument. -/
theorem kernel_frame : Cert.quiescent_Kernel (hKernel := Cert.Kernel.Gen.facts) := fun m ρ _ =>
  (θ_run _ _ _).mono (fun _ h => ⟨fun c => (h.1 c).1, h.2⟩) (Cert.Kernel.Clean.run m ρ)

/-- The kernel over the extended reals runs and leaves its argument. -/
theorem ideal_frame : Cert.quiescent_KernelIdeal (hKernelIdeal := Cert.KernelIdeal.Gen.facts) := fun m ρ _ =>
  (θ_run _ _ _).mono (fun _ h => ⟨fun c => (h.1 c).1, h.2⟩) (Cert.KernelIdeal.Clean.run m ρ)

/-- The reference runs and leaves its argument. -/
theorem reference_frame : Cert.quiescent_ReferenceIdeal (hReferenceIdeal := Cert.ReferenceIdeal.Gen.facts) := fun m ρ _ =>
  (θ_run _ _ _).mono (fun _ h => ⟨fun c => (h.1 c).1, h.2⟩) (Cert.ReferenceIdeal.Clean.run m ρ)

end Cert.Clean

end
-- ==== Proof.My.Best.lean ====
/- The first position of the largest value among consecutive positions, and how it is found piece by piece. -/
module

public import Idealize.ShloMosaic.PureOps.Ideal.Laws

@[expose] public section

noncomputable section

namespace Cert.Clean

/-- Among the positions from `a` up to `b`, position `k` is the first that holds the largest value of `s`,
    and `v` is that value. -/
structure Best (s : ℕ → EReal) (a b : ℕ) (v : EReal) (k : ℕ) : Prop where
  /-- The position is in the range. -/
  lo : a ≤ k
  /-- The position is in the range. -/
  hi : k < b
  /-- The value is the one at the position. -/
  val : v = s k
  /-- No value of the range is larger. -/
  le : ∀ j, a ≤ j → j < b → s j ≤ s k
  /-- Every earlier value is smaller. -/
  lt : ∀ j, a ≤ j → j < k → s j < s k

/-- Two neighbouring ranges: the second one's pair where its value is strictly larger, else the first one's. -/
theorem Best.join {s : ℕ → EReal} {a b c : ℕ} {v w : EReal} {k l : ℕ} (h : Best s a b v k) (h' : Best s b c w l) :
    Best s a c (if v < w then w else v) (if v < w then l else k) := by
  have e := h.val
  have e' := h'.val
  by_cases hlt : v < w
  · rw [if_pos hlt, if_pos hlt]
    rw [e, e'] at hlt
    refine ⟨le_trans (le_trans h.lo h.hi.le) h'.lo, h'.hi, e', fun j h1 h2 => ?_, fun j h1 h2 => ?_⟩
    · rcases lt_or_ge j b with hj | hj
      · exact (h.le j h1 hj).trans hlt.le
      · exact h'.le j hj h2
    · rcases lt_or_ge j b with hj | hj
      · exact lt_of_le_of_lt (h.le j h1 hj) hlt
      · exact h'.lt j hj h2
  · rw [if_neg hlt, if_neg hlt]
    rw [e, e'] at hlt
    refine ⟨h.lo, lt_of_lt_of_le h.hi (le_trans h'.lo h'.hi.le), e, fun j h1 h2 => ?_, h.lt⟩
    rcases lt_or_ge j b with hj | hj
    · exact h.le j h1 hj
    · exact (h'.le j hj h2).trans (not_lt.mp hlt)

/-- There is only one such position. -/
theorem Best.unique {s : ℕ → EReal} {a b : ℕ} {v w : EReal} {k l : ℕ} (h : Best s a b v k) (h' : Best s a b w l) : k = l := by
  rcases lt_trichotomy k l with hlt | heq | hlt
  · exact absurd (h'.lt k h.lo hlt) (not_lt.mpr (h.le l h'.lo h'.hi))
  · exact heq
  · exact absurd (h.lt l h'.lo hlt) (not_lt.mpr (h'.le k h.lo h.hi))

/-- Scores that order the positions of the range alike have the same first largest position. -/
theorem Best.congr_order {s s' : ℕ → EReal} {a b : ℕ} {v : EReal} {k : ℕ}
    (hlt : ∀ i j, a ≤ i → i < b → a ≤ j → j < b → (s i < s j ↔ s' i < s' j)) (h : Best s a b v k) : Best s' a b (s' k) k := by
  refine ⟨h.lo, h.hi, rfl, fun j h1 h2 => ?_, fun j h1 h2 => ?_⟩
  · refine not_lt.mp fun hc => ?_
    exact absurd ((hlt k j h.lo h.hi h1 h2).mpr hc) (not_lt.mpr (h.le j h1 h2))
  · exact (hlt j k h1 (h2.trans h.hi) h.lo h.hi).mp (h.lt j h1 h2)

/-- The scores matter only on the range. -/
theorem Best.congr {s s' : ℕ → EReal} {a b : ℕ} {v : EReal} {k : ℕ}
    (he : ∀ j, a ≤ j → j < b → s j = s' j) (h : Best s a b v k) : Best s' a b v k := by
  refine ⟨h.lo, h.hi, h.val.trans (he k h.lo h.hi), fun j h1 h2 => ?_, fun j h1 h2 => ?_⟩
  · rw [← he j h1 h2, ← he k h.lo h.hi]; exact h.le j h1 h2
  · rw [← he j h1 (h2.trans h.hi), ← he k h.lo h.hi]; exact h.lt j h1 h2

/-- Where the last positions of a range hold the least value of all, and the first position of all is not among
    them, they may be left out. -/
theorem Best.shrink {s : ℕ → EReal} {a b c : ℕ} {v : EReal} {k : ℕ} (h : Best s a c v k) (hab : a < b) (hbc : b ≤ c)
    (hbot : ∀ j, b ≤ j → j < c → s j = ⊥) : Best s a b v k := by
  have hk : k < b := by
    by_contra hn
    have hb := hbot k (not_lt.mp hn) h.hi
    have := h.lt a le_rfl (lt_of_lt_of_le hab (not_lt.mp hn))
    rw [hb] at this
    exact absurd this not_lt_bot
  exact ⟨h.lo, hk, h.val, fun j h1 h2 => h.le j h1 (lt_of_lt_of_le h2 hbc), h.lt⟩

end Cert.Clean

end
-- ==== Proof.My.Tile.lean ====
/- One tile's maximum and first column, at the real numbers: for every row they are the largest score and the first
   column that holds it. -/
module

public import proofs.«01_k».proof.Proof.My.Best
public import proofs.«01_k».proof.Proof.My.Clean
public import Idealize.ShloMosaic.Lib.ValueIdx
public import Idealize.ShloMosaic.Lib.SortNet.Extract

@[expose] public section

noncomputable section

namespace Cert.KernelIdeal.Clean

open Idealize.ShloMosaic Cert.KernelIdeal Cert.Clean
open Idealize.ShloMosaic.ValueIdx
open Facts₀ Facts

/-- The signed minimum of some words and a starting word is at most each of the words, and is one of them. -/
theorem fold_minsi_spec {ι : Type} [DecidableEq ι] (t : Finset ι) (g : ι → BitVec 32) (z : BitVec 32) :
    (∀ k ∈ t, (t.fold IntOp.minsi z g).toInt ≤ (g k).toInt) ∧ (t.fold IntOp.minsi z g = z ∨ ∃ k ∈ t, t.fold IntOp.minsi z g = g k) := by
  induction t using Finset.induction_on with
  | empty => exact ⟨fun k hk => absurd hk (Finset.notMem_empty k), Or.inl (Finset.fold_empty)⟩
  | insert a t ha ih =>
    rw [Finset.fold_insert ha]
    refine ⟨fun k hk => ?_, ?_⟩
    · rw [SortNet.toInt_minsi]
      rcases Finset.mem_insert.mp hk with rfl | hk
      · exact min_le_left _ _
      · exact (min_le_right _ _).trans (ih.1 k hk)
    · unfold IntOp.minsi
      split_ifs
      · exact Or.inr ⟨a, Finset.mem_insert_self a t, rfl⟩
      · rcases ih.2 with h | ⟨k, hk, h⟩
        · exact Or.inl h
        · exact Or.inr ⟨k, Finset.mem_insert_of_mem hk, h⟩

/-- The maximum over finitely many values and minus infinity is the value of any position none exceeds. -/
theorem fold_max_eq {n : ℕ} (f : Fin n → EReal) (k : Fin n) (h : ∀ j, f j ≤ f k) :
    (Finset.univ : Finset (Fin n)).fold max ⊥ f = f k :=
  le_antisymm (Finset.fold_max_le _ |>.mpr ⟨bot_le, fun j _ => h j⟩) (Finset.le_fold_max _ |>.mpr (Or.inr ⟨k, Finset.mem_univ k, le_rfl⟩))

/-- The smallest position among those equal to the maximum is the first position of the maximum. -/
theorem first_max {n : ℕ} (hn : 0 < n) (hN : n < 2147483647) (f : Fin n → EReal) :
    ∃ k : Fin n, (Finset.univ : Finset (Fin n)).fold IntOp.minsi 2147483647#32
        (fun j => Scalar.select (Ideal.cmp .oeq (f j) ((Finset.univ : Finset (Fin n)).fold max ⊥ f)) (BitVec.ofNat 32 j.val) 2147483647#32)
          = BitVec.ofNat 32 k.val
      ∧ (Finset.univ : Finset (Fin n)).fold max ⊥ f = f k ∧ (∀ j, f j ≤ f k) ∧ ∀ j, j < k → f j < f k := by
  haveI : Nonempty (Fin n) := ⟨⟨0, hn⟩⟩
  obtain ⟨j0, hj0⟩ := Finite.exists_max f
  have hM := fold_max_eq f j0 hj0
  generalize (Finset.univ : Finset (Fin n)).fold max ⊥ f = M at hM ⊢
  have hg : ∀ j : Fin n, Scalar.select (Ideal.cmp .oeq (f j) M) (BitVec.ofNat 32 j.val) 2147483647#32
      = if f j = M then BitVec.ofNat 32 j.val else 2147483647#32 := by
    intro j
    unfold Scalar.select Ideal.cmp
    by_cases h : f j = M
    · simp [h]
    · simp [h]
  have hi : ∀ j : Fin n, (BitVec.ofNat 32 j.val).toInt = (j.val : ℤ) := by
    intro j
    have := j.isLt
    rw [BitVec.toInt_eq_toNat_of_lt (by rw [BitVec.toNat_ofNat, Nat.mod_eq_of_lt (by omega)]; omega), BitVec.toNat_ofNat, Nat.mod_eq_of_lt (by omega)]
  have hz : (2147483647#32 : BitVec 32).toInt = 2147483647 := by decide
  obtain ⟨hle, hmem⟩ := fold_minsi_spec (Finset.univ : Finset (Fin n))
    (fun j => Scalar.select (Ideal.cmp .oeq (f j) M) (BitVec.ofNat 32 j.val) 2147483647#32) 2147483647#32
  generalize (Finset.univ : Finset (Fin n)).fold IntOp.minsi 2147483647#32
    (fun j => Scalar.select (Ideal.cmp .oeq (f j) M) (BitVec.ofNat 32 j.val) 2147483647#32) = R at hle hmem ⊢
  have hR0 : R.toInt ≤ (j0.val : ℤ) := by
    have := hle j0 (Finset.mem_univ j0)
    rw [hg, if_pos hM.symm, hi] at this
    exact this
  have hne : R ≠ 2147483647#32 := by
    rintro rfl
    rw [hz] at hR0
    have := j0.isLt
    omega
  rcases hmem with h | ⟨k, _, h⟩
  · exact absurd h hne
  · rw [hg] at h
    by_cases hk : f k = M
    · rw [if_pos hk] at h
      refine ⟨k, h, hk.symm, fun j => ?_, fun j hj => ?_⟩
      · rw [hk, hM]; exact hj0 j
      · refine lt_of_le_of_ne (by rw [hk, hM]; exact hj0 j) fun he => ?_
        have := hle j (Finset.mem_univ j)
        rw [hg, if_pos (he.trans hk), h, hi, hi] at this
        have := Fin.lt_def.mp hj
        omega
    · rw [if_neg hk] at h
      exact absurd h hne

/-- The format's minus infinity. -/
theorem neg_inf : (FloatOps.ofBits (F := Ideal) .f32 0xFF800000#32 : EReal) = ⊥ := by
  show Ideal.ieee 8 23 0xFF800000#32 = ⊥
  unfold Ideal.ieee
  simp

/-- A column of 64 entries, recast from a list of 64, reads the list. -/
theorem cast_col {α : Type} [Facts] (x : S64.Idx → α) (r : Fin 64) :
    shapeCast S64x1 x shapeCasts_S64_S64x1 (ix2 r (0 : Fin 1)) = x (ix1 r) := by
  show x (Shape.reshapeEquiv _ _) = _
  congr 1
  refine Shape.reshapeEquiv_eq_of_rowMajor _ ?_
  rw [Shape.rowMajor_val_one, Shape.rowMajor_val_two]
  show r.val = r.val * 1 + 0
  omega

/-- The index in row `r` and lane `l` over the reduced row `r`. -/
theorem lift_row [Facts] (r : Fin 64) (l : Fin 1024) : reduces_S64x1024_S64.lift (ix1 r) l = ix2 r l := by
  funext a
  match a with
  | ⟨0, _⟩ => rfl
  | ⟨1, _⟩ => rfl

/-- A row's largest entry. -/
theorem maxV_apply [Facts] (v : FVec Ideal S64x1024 .f32) (r : Fin 64) :
    maxV v (ix2 r (0 : Fin 1)) = (Finset.univ : Finset (Fin 1024)).fold max ⊥ (fun l => (v (ix2 r l) : EReal)) := by
  unfold maxV
  rw [cast_col]
  refine Eq.trans (Ideal.multiReduction_maximumf_single (φ := .f32) v 0xFF800000#32 reduces_S64x1024_S64 (.inl rfl) rfl (ix1 r)) ?_
  rw [neg_inf]
  refine Finset.fold_congr fun l _ => ?_
  exact congrArg v (lift_row r l)

/-- The lane of an entry. -/
theorem laneV_apply [Facts] (r : Fin 64) (l : Fin 1024) : laneV (ix2 r l) = BitVec.ofNat 32 l.val := by
  unfold laneV iota
  simp only [List.foldl_cons, List.foldl_nil, Nat.zero_mul, Nat.zero_add]

/-- The column of a row's first largest entry. -/
theorem argV_apply [Facts] (v : FVec Ideal S64x1024 .f32) (col : BitVec 32) (r : Fin 64) :
    argV v col (ix2 r (0 : Fin 1)) = (Finset.univ : Finset (Fin 1024)).fold IntOp.minsi 2147483647#32
      (fun l => Scalar.select (Ideal.cmp .oeq (v (ix2 r l)) (maxV v (ix2 r (0 : Fin 1)))) (BitVec.ofNat 32 l.val) 2147483647#32) + col := by
  unfold argV
  show shapeCast S64x1 _ shapeCasts_S64_S64x1 (ix2 r (0 : Fin 1)) + col = _
  rw [cast_col]
  refine congrArg (· + col) (Eq.trans (multiReductionI_eq_fold .minsi _ _ reduces_S64x1024_S64 rfl (ix1 r)) ?_)
  refine Eq.trans (Shape.Reduces.fold_filter_drop_single reduces_S64x1024_S64 IntOp.minsi _ _ (ix1 r)) ?_
  refine Finset.fold_congr fun l _ => ?_
  show select _ _ _ (reduces_S64x1024_S64.lift (ix1 r) l) = _
  refine (congrArg _ (lift_row r l)).trans ?_
  exact congrArg (fun w => Scalar.select (Ideal.cmp .oeq (v (ix2 r l)) (maxV v (ix2 r (0 : Fin 1)))) w 2147483647#32) (laneV_apply r l)

/-- A tile whose row `r` holds the scores from position `b` on: its maximum and first column. -/
theorem tile_best [Facts] (v : FVec Ideal S64x1024 .f32) (r : Fin 64) (b : ℕ) (s : ℕ → EReal)
    (hs : ∀ l : Fin 1024, v (ix2 r l) = s (b + l.val)) :
    ∃ k, argV v (BitVec.ofNat 32 b) (ix2 r (0 : Fin 1)) = BitVec.ofNat 32 k ∧ Best s b (b + 1024) (maxV v (ix2 r (0 : Fin 1))) k := by
  obtain ⟨k, h1, h2, h3, h4⟩ := first_max (n := 1024) (by omega) (by omega) (fun l => (v (ix2 r l) : EReal))
  refine ⟨b + k.val, ?_, ⟨by omega, by have := k.isLt; omega, ?_, fun j ha hb => ?_, fun j ha hb => ?_⟩⟩
  · rw [argV_apply, maxV_apply, h1, ← BitVec.ofNat_add, Nat.add_comm]
  · rw [maxV_apply, h2, hs k]
  · have := h3 ⟨j - b, by omega⟩
    rw [hs, hs, show b + (⟨j - b, by omega⟩ : Fin 1024).val = j by show b + (j - b) = j; omega] at this
    exact this
  · have := h4 ⟨j - b, by omega⟩ (Fin.lt_def.mpr (show j - b < k.val by omega))
    rw [hs, hs, show b + (⟨j - b, by omega⟩ : Fin 1024).val = j by show b + (j - b) = j; omega] at this
    exact this

end Cert.KernelIdeal.Clean

end
-- ==== Proof.My.Score.lean ====
/- The noise and the scores, entry by entry. -/
module

public import proofs.«01_k».proof.Proof.My.Tile

@[expose] public section

noncomputable section

namespace Cert.Clean

open Idealize.ShloMosaic

/-- The sum of two words. -/
def addW (x y : BitVec 32) : BitVec 32 := IntOp.addi x y

/-- Rotation of a word to the left by `r`, `t` being `32 - r`. -/
def rot (x r t : BitVec 32) : BitVec 32 := IntOp.ori (IntOp.shli .vector x r) (IntOp.shrui .vector x t)

/-- The second word after one mixing round, from the new first word and the old second one. -/
def mix (y x r t : BitVec 32) : BitVec 32 := IntOp.xori (rot x r t) y

/-- Threefry-2x32 with key (0, 42) at the counter (0, `i`), the two output words combined. -/
def bits (i : BitVec 32) : BitVec 32 :=
  have b0 : BitVec 32 := addW i 42#32
  have a0 : BitVec 32 := addW 0#32 b0
  have a1 : BitVec 32 := a0
  have b1 : BitVec 32 := mix a1 b0 13#32 19#32
  have a2 : BitVec 32 := addW a1 b1
  have b2 : BitVec 32 := mix a2 b1 15#32 17#32
  have a3 : BitVec 32 := addW a2 b2
  have b3 : BitVec 32 := mix a3 b2 26#32 6#32
  have a4 : BitVec 32 := addW a3 b3
  have b4 : BitVec 32 := mix a4 b3 6#32 26#32
  have a5 : BitVec 32 := addW a4 42#32
  have b5 : BitVec 32 := addW b4 466689009#32
  have a6 : BitVec 32 := addW a5 b5
  have b6 : BitVec 32 := mix a6 b5 17#32 15#32
  have a7 : BitVec 32 := addW a6 b6
  have b7 : BitVec 32 := mix a7 b6 29#32 3#32
  have a8 : BitVec 32 := addW a7 b7
  have b8 : BitVec 32 := mix a8 b7 16#32 16#32
  have a9 : BitVec 32 := addW a8 b8
  have b9 : BitVec 32 := mix a9 b8 24#32 8#32
  have a10 : BitVec 32 := addW a9 466689008#32
  have b10 : BitVec 32 := addW b9 2#32
  have a11 : BitVec 32 := addW a10 b10
  have b11 : BitVec 32 := mix a11 b10 13#32 19#32
  have a12 : BitVec 32 := addW a11 b11
  have b12 : BitVec 32 := mix a12 b11 15#32 17#32
  have a13 : BitVec 32 := addW a12 b12
  have b13 : BitVec 32 := mix a13 b12 26#32 6#32
  have a14 : BitVec 32 := addW a13 b13
  have b14 : BitVec 32 := mix a14 b13 6#32 26#32
  have a15 : BitVec 32 := addW a14 0#32
  have b15 : BitVec 32 := addW b14 45#32
  have a16 : BitVec 32 := addW a15 b15
  have b16 : BitVec 32 := mix a16 b15 17#32 15#32
  have a17 : BitVec 32 := addW a16 b16
  have b17 : BitVec 32 := mix a17 b16 29#32 3#32
  have a18 : BitVec 32 := addW a17 b17
  have b18 : BitVec 32 := mix a18 b17 16#32 16#32
  have a19 : BitVec 32 := addW a18 b18
  have b19 : BitVec 32 := mix a19 b18 24#32 8#32
  have a20 : BitVec 32 := addW a19 42#32
  have b20 : BitVec 32 := addW b19 466689012#32
  have a21 : BitVec 32 := addW a20 b20
  have b21 : BitVec 32 := mix a21 b20 13#32 19#32
  have a22 : BitVec 32 := addW a21 b21
  have b22 : BitVec 32 := mix a22 b21 15#32 17#32
  have a23 : BitVec 32 := addW a22 b22
  have b23 : BitVec 32 := mix a23 b22 26#32 6#32
  have a24 : BitVec 32 := addW a23 b23
  have b24 : BitVec 32 := mix a24 b23 6#32 26#32
  have a25 : BitVec 32 := addW a24 466689008#32
  have b25 : BitVec 32 := addW b24 5#32
  IntOp.xori a25 b25

/-- The number in [0, 1) that 23 of a word's bits give, as the real number. -/
def unit (w : BitVec 32) : EReal :=
  FloatOps.subf (F := Ideal) (φ := .f32) (FloatOps.ofBits .f32 (IntOp.ori (IntOp.shrui .vector w 9#32) 1065353216#32)) (FloatOps.ofBits .f32 0x3F800000#32)

/-- The noise a word gives: `-log (-log u)`. -/
def noise (w : BitVec 32) : EReal := -Ideal.log (-Ideal.log (unit w))

end Cert.Clean

namespace Cert.KernelIdeal.Clean

open Idealize.ShloMosaic Cert.KernelIdeal Cert.Clean
open Idealize.ShloMosaic.ValueIdx
open Facts₀ Facts

/-- The threefry words, entry by entry. -/
theorem bitsV_apply (i : IV) (j : S64x1024.Idx) : bitsV i j = bits (i j) := rfl

/-- Zero less a value is its negative. -/
theorem zero_sub_ideal (x : EReal) : FloatOps.subf (F := Ideal) (φ := .f32) (FloatOps.ofBits .f32 0x00000000#32) x = -x := by
  have h : (FloatOps.ofBits (F := Ideal) .f32 0x00000000#32 : EReal) = 0 := by
    show Ideal.ieee 8 23 0x00000000#32 = 0
    unfold Ideal.ieee
    simp
  rw [h]
  show (0 : EReal) + -x = -x
  rw [zero_add]

/-- The noise, entry by entry. -/
theorem noiseV_apply (w : IV) (j : S64x1024.Idx) : noiseV (F := Ideal) w j = noise (w j) := by
  unfold noise
  rw [← zero_sub_ideal (Ideal.log (unit (w j))), ← zero_sub_ideal (Ideal.log _)]
  rfl

/-- The flat index of an entry. -/
theorem flatV_apply [Facts] (b : ℕ) (r : Fin 64) (l : Fin 1024) :
    flatV (BitVec.ofNat 32 b) (ix2 r l) = BitVec.ofNat 32 (r.val * 1000000 + (b + l.val)) := by
  unfold flatV
  show BitVec.ofNat 32 _ * 1000000#32 + laneV (ix2 r l) + BitVec.ofNat 32 b = _
  rw [laneV_apply]
  simp only [List.foldl_cons, List.foldl_nil, Nat.zero_mul, Nat.zero_add]
  rw [Nat.add_comm b, ← Nat.add_assoc, BitVec.ofNat_add, BitVec.ofNat_add, BitVec.ofNat_mul]

/-- The score at row `r` and column `j` of an array. -/
def score (A : Fin 64 → ℕ → EReal) (r : Fin 64) (j : ℕ) : EReal := A r j + noise (bits (BitVec.ofNat 32 (r.val * 1000000 + j)))

/-- The scores of a tile are the array's. -/
theorem scoreV_apply [Facts] (A : Fin 64 → ℕ → EReal) (x : Vec Ideal S64x1024 .f32) (b : ℕ) (r : Fin 64) (l : Fin 1024)
    (hx : x (ix2 r l) = A r (b + l.val)) :
    scoreV (F := Ideal) x (BitVec.ofNat 32 b) (ix2 r l) = score A r (b + l.val) := by
  unfold scoreV score
  show (x (ix2 r l) : EReal) + noiseV (F := Ideal) _ (ix2 r l) = _
  rw [noiseV_apply, bitsV_apply, flatV_apply, hx]

end Cert.KernelIdeal.Clean

end
-- ==== Proof.My.KernelValue.lean ====
/- What the kernel computes over the real numbers: for every row, the column of the first largest score. -/
module

public import proofs.«01_k».proof.Proof.My.Score
public import proofs.«01_k».proof.Proof.My.Run
public import Idealize.ShloMosaic.Lib.Pipeline.Value
public import Idealize.ShloMosaic.Lib.StableHlo.RunRead
public import Idealize.ShloMosaic.Lib.Pipeline.ValueKit.Geometry

@[expose] public section

set_option maxRecDepth 65536

noncomputable section

namespace Cert.KernelIdeal.Clean

open Idealize.ShloMosaic Cert.KernelIdeal Cert.KernelIdeal.Gen Cert.Clean
open Idealize.ShloMosaic.ValueIdx
open Idealize.ShloMosaic.TcCoe
open Idealize.ShloMosaic.Pipeline (Dat Cfg Window)

/-! ## Pairs -/

/-- Row `r` of a pair of result blocks is the value and the column of the first largest score among the columns
    from `a` up to `b`. -/
def BestAt (s : ℕ → EReal) (a b : ℕ) (v : FVec Ideal S64x1 .f32) (i : IVec S64x1 32) (r : Fin 64) : Prop :=
  ∃ k, i (ix2 r (0 : Fin 1)) = BitVec.ofNat 32 k ∧ Best s a b (v (ix2 r (0 : Fin 1))) k

/-- The larger of two values, entry by entry. -/
theorem pickVal_apply (a b : FVec Ideal S64x1 .f32) (j : S64x1.Idx) :
    (pickVal a b j : EReal) = if (b j : EReal) < a j then a j else b j := by
  unfold pickVal
  show Scalar.select (BitVec.ofBool (decide ((b j : EReal) < a j))) (a j) (b j) = _
  unfold Scalar.select
  by_cases h : (b j : EReal) < a j <;> simp [h]

/-- The index that goes with it, entry by entry. -/
theorem pickIdx_apply (a b : FVec Ideal S64x1 .f32) (x y : IVec S64x1 32) (j : S64x1.Idx) :
    pickIdx a b x y j = if (b j : EReal) < a j then x j else y j := by
  unfold pickIdx
  show Scalar.select (BitVec.ofBool (decide ((b j : EReal) < a j))) (x j) (y j) = _
  unfold Scalar.select
  by_cases h : (b j : EReal) < a j <;> simp [h]

/-- Choosing between the pairs of two neighbouring ranges gives the pair of both. -/
theorem BestAt.join {s : ℕ → EReal} {a b c : ℕ} {v v' : FVec Ideal S64x1 .f32} {i i' : IVec S64x1 32} {r : Fin 64}
    (h : BestAt s a b v i r) (h' : BestAt s b c v' i' r) : BestAt s a c (pickVal v' v) (pickIdx v' v i' i) r := by
  obtain ⟨k, hk, hb⟩ := h
  obtain ⟨l, hl, hb'⟩ := h'
  refine ⟨if (v (ix2 r (0 : Fin 1)) : EReal) < v' (ix2 r (0 : Fin 1)) then l else k, ?_, ?_⟩
  · rw [pickIdx_apply, hk, hl]
    split <;> rfl
  · rw [pickVal_apply]
    exact hb.join hb'

/-- A block recast to its own shape is itself. -/
theorem castV_self {e : EltTy} (x : Vec Ideal S64x1 e) : castV (F := Ideal) x = x := by
  funext j
  show x (Shape.reshapeEquiv _ j) = x j
  rw [Shape.reshapeEquiv_self]

/-- The update at the first point. -/
theorem update_first (c1 c2 : BitVec 1) (h1 : c1 = 1#1) (h2 : c2 ≠ 1#1) (bm : FVec Ideal S64x1 .f32) (bi : IVec S64x1 32) (p : Pair Ideal) :
    joinV c2 bm bi (setV c1 bm bi p) = (bm, bi) := by
  unfold joinV setV
  rw [if_neg h2, if_pos h1]

/-- The update at a later point. -/
theorem update_later (c1 c2 : BitVec 1) (h1 : c1 ≠ 1#1) (h2 : c2 = 1#1) (bm : FVec Ideal S64x1 .f32) (bi : IVec S64x1 32) (p : Pair Ideal) :
    joinV c2 bm bi (setV c1 bm bi p) = (pickVal bm p.1, pickIdx bm p.1 bi p.2) := by
  unfold joinV setV
  rw [if_pos h2, if_neg h1, castV_self, castV_self]

/-! ## The first call -/

/-- The tiles `0, …, n` of a block whose columns start at `base`. -/
theorem scan_best (A : Fin 64 → ℕ → EReal) (X : Vec Ideal S64x24576 .f32) (base : ℕ) (r : Fin 64)
    (hX : ∀ k : Fin 24576, X (ix2 r k) = A r (base + k.val)) :
    ∀ (n : ℕ) (h : n < 24), BestAt (score A r) base (base + 1024 * (n + 1)) (scanV (F := Ideal) X (BitVec.ofNat 32 base) n h).1
      (scanV (F := Ideal) X (BitVec.ofNat 32 base) n h).2 r := by
  have hcol : ∀ n, colOf (BitVec.ofNat 32 base) n = BitVec.ofNat 32 (base + 1024 * n) := fun n => by
    rw [BitVec.ofNat_add]; rfl
  have htile : ∀ (n : ℕ) (h : n < 24), BestAt (score A r) (base + 1024 * n) (base + 1024 * (n + 1))
      (maxV (scoreV (F := Ideal) (tileOf X n h) (colOf (BitVec.ofNat 32 base) n)))
      (argV (scoreV (F := Ideal) (tileOf X n h) (colOf (BitVec.ofNat 32 base) n)) (colOf (BitVec.ofNat 32 base) n)) r := by
    intro n h
    rw [hcol, show base + 1024 * (n + 1) = base + 1024 * n + 1024 by omega]
    refine tile_best _ r (base + 1024 * n) (score A r) fun l => ?_
    refine scoreV_apply A _ (base + 1024 * n) r l ?_
    have hk : 1024 * n + l.val < 24576 := by have := l.isLt; omega
    refine Eq.trans ?_ ((hX ⟨1024 * n + l.val, hk⟩).trans ?_)
    · unfold tileOf
      refine congrArg X (funext fun a => Fin.ext ?_)
      match a with
      | ⟨0, _⟩ => show 0 + 1 * r.val = r.val; omega
      | ⟨1, _⟩ => show 1024 * n + 1 * l.val = 1024 * n + l.val; omega
    · rw [← Nat.add_assoc]
  intro n
  induction n with
  | zero =>
    intro h
    unfold scanV
    dsimp only
    exact htile 0 h
  | succ n ih =>
    intro h
    unfold scanV
    dsimp only
    exact (ih (Nat.lt_of_succ_lt h)).join (htile (n + 1) h)

variable (A : (c : Dev nD) → Buf (Elt Ideal) ((c : Thread nD τ).loc main_arg0)) (c : Dev nD)

/-- The input, by row and column. -/
def row (r : Fin 64) (j : ℕ) : EReal := if h : j < 1000000 then (A c : S64x1000000.Idx → EReal) (ix2 r ⟨j, h⟩) else ⊥

theorem xsize0 : ∀ (t : Fin cfg0.N) (a : Fin 2), win0_0.xsize (grid0.coords t) a = ![64, 24576] a := by
  decide +kernel

theorem index0 : ∀ (t : Fin cfg0.N) (a : Fin 2), win0_0.index t a = ![0, t.val] a := by
  decide +kernel

theorem base0 : ∀ t : Fin cfg0.N, Scalar.muli (BitVec.ofNat 32 (grid0.coords t 0).val) 24576#32 = BitVec.ofNat 32 (24576 * t.val) := by
  decide +kernel

theorem cond0 : ∀ t : Fin cfg0.N, if t.val = 0 then k0_cond1 (grid0.coords t) = 1#1 ∧ k0_cond2 (grid0.coords t) ≠ 1#1
    else k0_cond1 (grid0.coords t) ≠ 1#1 ∧ k0_cond2 (grid0.coords t) = 1#1 := by
  decide +kernel

/-- The first call's block at point `t` holds the columns from `24576 * t` on. -/
theorem X0_apply (t : Fin cfg0.N) (r : Fin 64) (k : Fin 24576) : X0 (F := Ideal) A c t (ix2 r k) = row A c r (24576 * t.val + k.val) := by
  have ht : t.val < 40 := t.isLt
  have hk := k.isLt
  have hm : win0_0.moved (grid0.coords t) (ix2 r k) = true := by
    refine (win0_0.moved_iff (grid0.coords t) (ix2 r k)).mpr fun a => ?_
    rw [show win0_0.xsize (grid0.coords t) a = ![64, 24576] a from xsize0 t a]
    match a with
    | ⟨0, _⟩ => exact r.isLt
    | ⟨1, _⟩ => exact hk
  unfold X0 blk0 Window.fill row
  rw [dif_pos hm, dif_pos (show 24576 * t.val + k.val < 1000000 by omega)]
  refine congrArg (A c) (funext fun a => Fin.ext ?_)
  refine (Window.rect_emb_val win0_0 t _ a).trans ?_
  rw [show win0_0.index t a = ![0, t.val] a from index0 t a]
  match a with
  | ⟨0, _⟩ => show 0 * 64 + r.val = r.val; omega
  | ⟨1, _⟩ => show t.val * 24576 + k.val = 24576 * t.val + k.val; omega

/-- After the points `0, …, n` the first call's pair is the first largest score of the columns they cover. -/
theorem acc0_best (r : Fin 64) : ∀ (n : ℕ) (h : n < cfg0.N), BestAt (score (row A c) r) 0 (24576 * (n + 1)) (acc0 (F := Ideal) A c n h).1 (acc0 (F := Ideal) A c n h).2 r := by
  have hpt : ∀ (n : ℕ) (h : n < cfg0.N), BestAt (score (row A c) r) (24576 * n) (24576 * (n + 1))
      (scanV (F := Ideal) (X0 A c ⟨n, h⟩) (Scalar.muli (BitVec.ofNat 32 (grid0.coords ⟨n, h⟩ 0).val) 24576#32) 23 (by decide)).1
      (scanV (F := Ideal) (X0 A c ⟨n, h⟩) (Scalar.muli (BitVec.ofNat 32 (grid0.coords ⟨n, h⟩ 0).val) 24576#32) 23 (by decide)).2 r := by
    intro n h
    rw [base0 ⟨n, h⟩, show 24576 * (n + 1) = 24576 * n + 1024 * (23 + 1) by omega]
    exact scan_best (row A c) _ (24576 * n) r (fun k => X0_apply A c ⟨n, h⟩ r k) 23 (by decide)
  intro n
  induction n with
  | zero =>
    intro h
    unfold acc0 mainV
    have hc := cond0 ⟨0, h⟩
    rw [if_pos rfl] at hc
    rw [update_first _ _ hc.1 hc.2]
    dsimp only
    exact hpt 0 h
  | succ n ih =>
    intro h
    unfold acc0 mainV
    have hc := cond0 ⟨n + 1, h⟩
    rw [if_neg (Nat.succ_ne_zero n)] at hc
    rw [update_later _ _ hc.1 hc.2]
    dsimp only
    exact (ih (Nat.lt_of_succ_lt h)).join (hpt (n + 1) h)

/-! ## The second call -/

/-- The scores, minus infinity past the array's last column. -/
def tailScore (s : ℕ → EReal) (j : ℕ) : EReal := if j < 1000000 then s j else ⊥

theorem index1 : ∀ (t : Fin cfg1.N) (a : Fin 2), win1_0.index t a = ![0, 960 + t.val] a := by
  decide +kernel

theorem base1 : ∀ t : Fin cfg1.N, tailCol (grid1.coords t) = BitVec.ofNat 32 (983040 + 1024 * t.val) := by
  decide +kernel

theorem cond1 : ∀ t : Fin cfg1.N, if t.val = 0 then k1_cond1 (grid1.coords t) = 1#1 ∧ k1_cond2 (grid1.coords t) ≠ 1#1
    else k1_cond1 (grid1.coords t) ≠ 1#1 ∧ k1_cond2 (grid1.coords t) = 1#1 := by
  decide +kernel

/-- The second call's block at point `t` holds the columns from `983040 + 1024 * t` on. -/
theorem X1_apply (t : Fin cfg1.N) (r : Fin 64) (k : Fin 1024) (hj : 983040 + 1024 * t.val + k.val < 1000000) :
    X1 (F := Ideal) A c t (ix2 r k) = row A c r (983040 + 1024 * t.val + k.val) := by
  have ht : t.val < 17 := t.isLt
  have hk := k.isLt
  have hm : win1_0.moved (grid1.coords t) (ix2 r k) = true := by
    refine (win1_0.moved_iff (grid1.coords t) (ix2 r k)).mpr fun a => ?_
    rw [show win1_0.xsize (grid1.coords t) a = ![64, if t.val = 16 then 576 else 1024] a from xsize1 t a]
    match a with
    | ⟨0, _⟩ => exact r.isLt
    | ⟨1, _⟩ =>
      show k.val < if t.val = 16 then 576 else 1024
      split <;> omega
  unfold X1 blk1 Window.fill row
  rw [dif_pos hm, dif_pos hj]
  refine congrArg (A c) (funext fun a => Fin.ext ?_)
  refine (Window.rect_emb_val win1_0 t _ a).trans ?_
  rw [show win1_0.index t a = ![0, 960 + t.val] a from index1 t a]
  match a with
  | ⟨0, _⟩ => show 0 * 64 + r.val = r.val; omega
  | ⟨1, _⟩ => show (960 + t.val) * 1024 + k.val = 983040 + 1024 * t.val + k.val; omega

/-- The comparison of a column with the array's width. -/
theorem slt_width (n : ℕ) (h : n < 2147483648) : IntOp.cmpi .slt (BitVec.ofNat 32 n) 1000000#32 = BitVec.ofBool (decide (n < 1000000)) := by
  show BitVec.ofBool (BitVec.slt _ _) = _
  congr 1
  unfold BitVec.slt
  rw [BitVec.toInt_eq_toNat_of_lt (by rw [BitVec.toNat_ofNat, Nat.mod_eq_of_lt (by omega)]; omega), BitVec.toNat_ofNat, Nat.mod_eq_of_lt (by omega),
    show (1000000#32 : BitVec 32).toInt = 1000000 by decide]
  exact decide_eq_decide.mpr (by omega)

/-- The masked scores of the second call's tile. -/
theorem masked_apply (t : Fin cfg1.N) (r : Fin 64) (l : Fin 1024) :
    maskedV (F := Ideal) (X1 A c t) (BitVec.ofNat 32 (983040 + 1024 * t.val)) (ix2 r l)
      = tailScore (score (row A c) r) (983040 + 1024 * t.val + l.val) := by
  have ht : t.val < 17 := t.isLt
  have hl := l.isLt
  have hc : cmpi .slt (addi laneV (broadcast S64x1024 (BitVec.ofNat 32 (983040 + 1024 * t.val)))) (broadcast S64x1024 1000000#32) (ix2 r l)
      = BitVec.ofBool (decide (983040 + 1024 * t.val + l.val < 1000000)) := by
    rw [← slt_width _ (by omega)]
    show IntOp.cmpi .slt (laneV (ix2 r l) + BitVec.ofNat 32 (983040 + 1024 * t.val)) 1000000#32 = _
    rw [laneV_apply, ← BitVec.ofNat_add, Nat.add_comm l.val]
  unfold maskedV tailScore
  rw [select_apply, hc]
  unfold Scalar.select
  by_cases hj : 983040 + 1024 * t.val + l.val < 1000000
  · rw [if_pos hj, if_pos (by simp [hj])]
    exact scoreV_apply (row A c) _ _ r l (X1_apply A c t r l hj)
  · rw [if_neg hj, if_neg (by simp [hj])]
    exact neg_inf

/-- After the points `0, …, n` the second call's pair is the first largest masked score of the columns they cover. -/
theorem acc1_best (r : Fin 64) : ∀ (n : ℕ) (h : n < cfg1.N),
    BestAt (tailScore (score (row A c) r)) 983040 (983040 + 1024 * (n + 1)) (acc1 (F := Ideal) A c n h).1 (acc1 (F := Ideal) A c n h).2 r := by
  have hpt : ∀ (n : ℕ) (h : n < cfg1.N), BestAt (tailScore (score (row A c) r)) (983040 + 1024 * n) (983040 + 1024 * (n + 1))
      (maxV (maskedV (F := Ideal) (X1 A c ⟨n, h⟩) (tailCol (grid1.coords ⟨n, h⟩))))
      (argV (maskedV (F := Ideal) (X1 A c ⟨n, h⟩) (tailCol (grid1.coords ⟨n, h⟩))) (tailCol (grid1.coords ⟨n, h⟩))) r := by
    intro n h
    rw [base1 ⟨n, h⟩, show 983040 + 1024 * (n + 1) = 983040 + 1024 * n + 1024 by omega]
    exact tile_best _ r (983040 + 1024 * n) _ fun l => masked_apply A c ⟨n, h⟩ r l
  intro n
  induction n with
  | zero =>
    intro h
    unfold acc1 tailV
    have hc := cond1 ⟨0, h⟩
    rw [if_pos rfl] at hc
    rw [update_first _ _ hc.1 hc.2]
    dsimp only
    exact hpt 0 h
  | succ n ih =>
    intro h
    unfold acc1 tailV
    have hc := cond1 ⟨n + 1, h⟩
    rw [if_neg (Nat.succ_ne_zero n)] at hc
    rw [update_later _ _ hc.1 hc.2]
    dsimp only
    exact (ih (Nat.lt_of_succ_lt h)).join (hpt (n + 1) h)

/-- Both calls together: the first largest score of a row. -/
theorem both_best (r : Fin 64) :
    BestAt (score (row A c) r) 0 1000000
      (pickVal (acc1 (F := Ideal) A c 16 (by decide)).1 (acc0 (F := Ideal) A c 39 (by decide)).1)
      (pickIdx (acc1 (F := Ideal) A c 16 (by decide)).1 (acc0 (F := Ideal) A c 39 (by decide)).1
          (acc1 (F := Ideal) A c 16 (by decide)).2 (acc0 (F := Ideal) A c 39 (by decide)).2) r := by
  have h0 := acc0_best A c r 39 (by decide)
  rw [show 24576 * (39 + 1) = 983040 from rfl] at h0
  refine h0.join ?_
  obtain ⟨k, hk, hb⟩ := acc1_best A c r 16 (by decide)
  rw [show 983040 + 1024 * (16 + 1) = 1000448 from rfl] at hb
  refine ⟨k, hk, Best.congr (s := tailScore (score (row A c) r)) (fun j _ hj => if_pos hj) ?_⟩
  exact hb.shrink (by omega) (by omega) fun j hj _ => if_neg (by omega)

/-! ## The buffers at the end -/

variable (V : Vals Ideal)

attribute [local irreducible] acc0 acc1

/-- The first call's index buffer when it is done. -/
theorem arr0_idx : after0 V c main_call0_v0_0 = (acc0 (F := Ideal) (inp V) c 39 (by decide)).2 := by
  rw [after0_idx]
  funext i
  refine ((dat0 V c).arrAt_emb_eq_after_last (1 : Fin 3) (⟨39, by decide⟩ : Fin cfg0.N) (by decide +kernel) i).trans ?_
  rfl

/-- The first call's value buffer when it is done. -/
theorem arr0_val : after0 V c main_call0_v0_1 = (acc0 (F := Ideal) (inp V) c 39 (by decide)).1 := by
  rw [after0_val]
  funext i
  refine ((dat0 V c).arrAt_emb_eq_after_last (2 : Fin 3) (⟨39, by decide⟩ : Fin cfg0.N) (by decide +kernel) i).trans ?_
  rfl

/-- The second call's index buffer when it is done. -/
theorem arr1_idx : after1 V c main_call0_v1_0 = (acc1 (F := Ideal) (inp V) c 16 (by decide)).2 := by
  rw [after1_idx]
  funext i
  refine ((dat1 V c).arrAt_emb_eq_after_last (1 : Fin 3) (⟨16, by decide⟩ : Fin cfg1.N) (by decide +kernel) i).trans ?_
  rfl

/-- The second call's value buffer when it is done. -/
theorem arr1_val : after1 V c main_call0_v1_1 = (acc1 (F := Ideal) (inp V) c 16 (by decide)).1 := by
  rw [after1_val]
  funext i
  refine ((dat1 V c).arrAt_emb_eq_after_last (2 : Fin 3) (⟨16, by decide⟩ : Fin cfg1.N) (by decide +kernel) i).trans ?_
  rfl

/-- The result buffer at the end: the choice between the two calls' pairs. -/
theorem ended_result (m : (ℓ : Loc nD τ sig) → Buf (Elt Ideal) ℓ) :
    ended m c main_v0 = pickIdx (F := Ideal) (called m c main_call0_v1_1 : FVec Ideal S64x1 .f32) (called m c main_call0_v0_1 : FVec Ideal S64x1 .f32)
      (called m c main_call0_v1_0 : IVec S64x1 32) (called m c main_call0_v0_0 : IVec S64x1 32) := by
  unfold ended pickIdx
  after_reads_simp
  rfl

/-- The kernel's result: in every row the column of the first largest score. -/
theorem kernel_value (m : (ℓ : Loc nD τ sig) → Buf (Elt Ideal) ℓ) (r : Fin 64) :
    ∃ k v, (ended m c main_v0 : IVec S64x1 32) (ix2 r (0 : Fin 1)) = BitVec.ofNat 32 k
      ∧ Best (score (row (fun c => m ((c : Thread nD τ).loc main_arg0)) c) r) 0 1000000 v k := by
  have hin : inp (after0 (start m)) = fun c : Dev nD => m ((c : Thread nD τ).loc main_arg0) := by
    funext c
    exact after0_of (start m) c main_arg0 (by decide) (by decide)
  have hin0 : inp (start m) = fun c : Dev nD => m ((c : Thread nD τ).loc main_arg0) := rfl
  rw [ended_result]
  have e1 : called m c main_call0_v1_1 = _ := arr1_val c (after0 (start m))
  have e2 : called m c main_call0_v1_0 = _ := arr1_idx c (after0 (start m))
  have e3 : called m c main_call0_v0_1 = _ := (after1_of _ c main_call0_v0_1 (by decide) (by decide)).trans (arr0_val c (start m))
  have e4 : called m c main_call0_v0_0 = _ := (after1_of _ c main_call0_v0_0 (by decide) (by decide)).trans (arr0_idx c (start m))
  rw [hin] at e1 e2
  rw [hin0] at e3 e4
  rw [e1, e2, e3, e4]
  obtain ⟨k, hk, hb⟩ := both_best (fun c : Dev nD => m ((c : Thread nD τ).loc main_arg0)) c r
  exact ⟨k, _, hk, hb⟩

end Cert.KernelIdeal.Clean

end
-- ==== Proof.My.RefHash.lean ====
/- The reference's counter hash, entry by entry. -/
module

public import proofs.«01_k».proof.Proof.My.RefRun
public import proofs.«01_k».proof.Proof.My.Score
public import Idealize.ShloMosaic.Lib.StableHlo.RunRead

@[expose] public section

noncomputable section

namespace Cert.ReferenceIdeal.Clean

open Idealize.ShloMosaic Idealize.ShloMosaic.TcCoe Idealize.SL.Sem Idealize.ShloMosaic.StableHlo
open Cert.ReferenceIdeal Facts₀ Facts
open Cert.Clean (addW mix)

variable [Facts]

/-- A word copied to every entry. -/
abbrev spread (x : IVec S_ 32) : IVec S64x1000000 32 := broadcastInDim S64x1000000 ![] bcast_S_S64x1000000 x

/-- The second word after one mixing round, as the reference writes it. -/
def stir (a b r t : BitVec 32) : BitVec 32 :=
  IntOp.xori a (IntOp.ori (IntOp.shli .host b r) (IntOp.shrui .host b t))

/-- The third key word. -/
def third (k0 k1 : BitVec 32) : BitVec 32 := IntOp.xori (IntOp.xori k0 k1) 466688986#32

/-- Rounds 1 to 5, from the counter words. -/
def part0 (k0 k1 x0 x1 : BitVec 32) : BitVec 32 × BitVec 32 :=
  have a0 := addW x0 k0
  have b0 := addW x1 k1
  have a1 := addW a0 b0
  have b1 := stir a1 b0 13#32 19#32
  have a2 := addW a1 b1
  have b2 := stir a2 b1 15#32 17#32
  have a3 := addW a2 b2
  have b3 := stir a3 b2 26#32 6#32
  have a4 := addW a3 b3
  have b4 := stir a4 b3 6#32 26#32
  have a5 := addW a4 k1
  have b5 := addW (addW b4 (third k0 k1)) 1#32
  have a6 := addW a5 b5
  have b6 := stir a6 b5 17#32 15#32
  (addW a6 b6, b6)

/-- Rounds 6 to 11. -/
def part1 (k0 k2 a b : BitVec 32) : BitVec 32 × BitVec 32 :=
  have b7 := stir a b 29#32 3#32
  have a8 := addW a b7
  have b8 := stir a8 b7 16#32 16#32
  have a9 := addW a8 b8
  have b9 := stir a9 b8 24#32 8#32
  have a10 := addW a9 k2
  have b10 := addW (addW b9 k0) 2#32
  have a11 := addW a10 b10
  have b11 := stir a11 b10 13#32 19#32
  have a12 := addW a11 b11
  have b12 := stir a12 b11 15#32 17#32
  have a13 := addW a12 b12
  (a13, stir a13 b12 26#32 6#32)

/-- Rounds 12 to 16. -/
def part2 (k0 k1 k2 a b : BitVec 32) : BitVec 32 × BitVec 32 :=
  have a14 := addW a b
  have b14 := stir a14 b 6#32 26#32
  have a15 := addW a14 k0
  have b15 := addW (addW b14 k1) 3#32
  have a16 := addW a15 b15
  have b16 := stir a16 b15 17#32 15#32
  have a17 := addW a16 b16
  have b17 := stir a17 b16 29#32 3#32
  have a18 := addW a17 b17
  have b18 := stir a18 b17 16#32 16#32
  have a19 := addW a18 b18
  have b19 := stir a19 b18 24#32 8#32
  have a20 := addW a19 k1
  have b20 := addW (addW b19 k2) 4#32
  (addW a20 b20, b20)

/-- Rounds 17 to 20. -/
def part3 (k0 k2 a b : BitVec 32) : BitVec 32 × BitVec 32 :=
  have b21 := stir a b 13#32 19#32
  have a22 := addW a b21
  have b22 := stir a22 b21 15#32 17#32
  have a23 := addW a22 b22
  have b23 := stir a23 b22 26#32 6#32
  have a24 := addW a23 b23
  have b24 := stir a24 b23 6#32 26#32
  (addW a24 k2, addW (addW b24 k0) 5#32)

/-- A buffer of words, read at an entry. -/
abbrev at64 (x : IVec S64x1000000 32) (j : S64x1000000.Idx) : BitVec 32 := x j

set_option maxRecDepth 65536 in
set_option maxHeartbeats 0 in
/-- The second word after rounds 1 to 5. -/
theorem part0_b (V : Valuation τ sig (Elt Ideal)) (j : S64x1000000.Idx) :
    at64 (after tfOps0 V (Proc.devRef .tc main_call0_call0_v46)) j
      = (part0 (spread (V (Proc.devRef .tc main_call0_v5)) j) (spread (V (Proc.devRef .tc main_call0_v7)) j)
          (at64 (V (Proc.devRef .tc main_call0_v18)) j) (at64 (V (Proc.devRef .tc main_call0_v17)) j)).2 := by
  unfold tfOps0
  after_reads_simp
  rfl

set_option maxRecDepth 65536 in
set_option maxHeartbeats 0 in
/-- The first word after rounds 1 to 5. -/
theorem part0_a (V : Valuation τ sig (Elt Ideal)) (j : S64x1000000.Idx) :
    at64 (after tfOps0 V (Proc.devRef .tc main_call0_call0_v47)) j
      = (part0 (spread (V (Proc.devRef .tc main_call0_v5)) j) (spread (V (Proc.devRef .tc main_call0_v7)) j)
          (at64 (V (Proc.devRef .tc main_call0_v18)) j) (at64 (V (Proc.devRef .tc main_call0_v17)) j)).1 := by
  unfold tfOps0
  after_reads_simp
  rfl

set_option maxRecDepth 65536 in
set_option maxHeartbeats 0 in
/-- The first word after rounds 6 to 11. -/
theorem part1_a (V : Valuation τ sig (Elt Ideal)) (j : S64x1000000.Idx) :
    at64 (after tfOps1 V (Proc.devRef .tc main_call0_call0_v88)) j
      = (part1 (spread (V (Proc.devRef .tc main_call0_v5)) j) (spread (V (Proc.devRef .tc main_call0_call0_v1)) j)
          (at64 (V (Proc.devRef .tc main_call0_call0_v47)) j) (at64 (V (Proc.devRef .tc main_call0_call0_v46)) j)).1 := by
  unfold tfOps1
  after_reads_simp
  rfl

set_option maxRecDepth 65536 in
set_option maxHeartbeats 0 in
/-- The second word after rounds 6 to 11. -/
theorem part1_b (V : Valuation τ sig (Elt Ideal)) (j : S64x1000000.Idx) :
    at64 (after tfOps1 V (Proc.devRef .tc main_call0_call0_v94)) j
      = (part1 (spread (V (Proc.devRef .tc main_call0_v5)) j) (spread (V (Proc.devRef .tc main_call0_call0_v1)) j)
          (at64 (V (Proc.devRef .tc main_call0_call0_v47)) j) (at64 (V (Proc.devRef .tc main_call0_call0_v46)) j)).2 := by
  unfold tfOps1
  after_reads_simp
  rfl

set_option maxRecDepth 65536 in
set_option maxHeartbeats 0 in
/-- The first word after rounds 12 to 16. -/
theorem part2_a (V : Valuation τ sig (Elt Ideal)) (j : S64x1000000.Idx) :
    at64 (after tfOps2 V (Proc.devRef .tc main_call0_call0_v142)) j
      = (part2 (spread (V (Proc.devRef .tc main_call0_v5)) j) (spread (V (Proc.devRef .tc main_call0_v7)) j)
          (spread (V (Proc.devRef .tc main_call0_call0_v1)) j) (at64 (V (Proc.devRef .tc main_call0_call0_v88)) j) (at64 (V (Proc.devRef .tc main_call0_call0_v94)) j)).1 := by
  unfold tfOps2
  after_reads_simp
  rfl

set_option maxRecDepth 65536 in
set_option maxHeartbeats 0 in
/-- The second word after rounds 12 to 16. -/
theorem part2_b (V : Valuation τ sig (Elt Ideal)) (j : S64x1000000.Idx) :
    at64 (after tfOps2 V (Proc.devRef .tc main_call0_call0_v141)) j
      = (part2 (spread (V (Proc.devRef .tc main_call0_v5)) j) (spread (V (Proc.devRef .tc main_call0_v7)) j)
          (spread (V (Proc.devRef .tc main_call0_call0_v1)) j) (at64 (V (Proc.devRef .tc main_call0_call0_v88)) j) (at64 (V (Proc.devRef .tc main_call0_call0_v94)) j)).2 := by
  unfold tfOps2
  after_reads_simp
  rfl

set_option maxRecDepth 65536 in
set_option maxHeartbeats 0 in
/-- The first output word. -/
theorem part3_a (V : Valuation τ sig (Elt Ideal)) (j : S64x1000000.Idx) :
    at64 (after tfOps3 V (Proc.devRef .tc main_call0_v19_0)) j
      = (part3 (spread (V (Proc.devRef .tc main_call0_v5)) j) (spread (V (Proc.devRef .tc main_call0_call0_v1)) j)
          (at64 (V (Proc.devRef .tc main_call0_call0_v142)) j) (at64 (V (Proc.devRef .tc main_call0_call0_v141)) j)).1 := by
  unfold tfOps3
  after_reads_simp
  rfl

set_option maxRecDepth 65536 in
set_option maxHeartbeats 0 in
/-- The second output word. -/
theorem part3_b (V : Valuation τ sig (Elt Ideal)) (j : S64x1000000.Idx) :
    at64 (after tfOps3 V (Proc.devRef .tc main_call0_v19_1)) j
      = (part3 (spread (V (Proc.devRef .tc main_call0_v5)) j) (spread (V (Proc.devRef .tc main_call0_call0_v1)) j)
          (at64 (V (Proc.devRef .tc main_call0_call0_v142)) j) (at64 (V (Proc.devRef .tc main_call0_call0_v141)) j)).2 := by
  unfold tfOps3
  after_reads_simp
  rfl

set_option maxRecDepth 65536 in
/-- The third key word, after rounds 1 to 5. -/
theorem part0_key (V : Valuation τ sig (Elt Ideal)) (j : S64x1000000.Idx) :
    spread (after tfOps0 V (Proc.devRef .tc main_call0_call0_v1)) j
      = third (spread (V (Proc.devRef .tc main_call0_v5)) j) (spread (V (Proc.devRef .tc main_call0_v7)) j) := by
  unfold tfOps0
  after_reads_simp
  rfl

set_option maxRecDepth 65536 in
/-- The first key word is kept. -/
theorem keep0_k0 (V : Valuation τ sig (Elt Ideal)) :
    after tfOps0 V (Proc.devRef .tc main_call0_v5) = V (Proc.devRef .tc main_call0_v5) := by
  unfold tfOps0
  after_reads_simp

set_option maxRecDepth 65536 in
/-- The second key word is kept. -/
theorem keep0_k1 (V : Valuation τ sig (Elt Ideal)) :
    after tfOps0 V (Proc.devRef .tc main_call0_v7) = V (Proc.devRef .tc main_call0_v7) := by
  unfold tfOps0
  after_reads_simp

set_option maxRecDepth 65536 in
/-- The first key word is kept. -/
theorem keep1_k0 (V : Valuation τ sig (Elt Ideal)) :
    after tfOps1 V (Proc.devRef .tc main_call0_v5) = V (Proc.devRef .tc main_call0_v5) := by
  unfold tfOps1
  after_reads_simp

set_option maxRecDepth 65536 in
/-- The second key word is kept. -/
theorem keep1_k1 (V : Valuation τ sig (Elt Ideal)) :
    after tfOps1 V (Proc.devRef .tc main_call0_v7) = V (Proc.devRef .tc main_call0_v7) := by
  unfold tfOps1
  after_reads_simp

set_option maxRecDepth 65536 in
/-- The third key word is kept. -/
theorem keep1_k2 (V : Valuation τ sig (Elt Ideal)) :
    after tfOps1 V (Proc.devRef .tc main_call0_call0_v1) = V (Proc.devRef .tc main_call0_call0_v1) := by
  unfold tfOps1
  after_reads_simp

set_option maxRecDepth 65536 in
/-- The first key word is kept. -/
theorem keep2_k0 (V : Valuation τ sig (Elt Ideal)) :
    after tfOps2 V (Proc.devRef .tc main_call0_v5) = V (Proc.devRef .tc main_call0_v5) := by
  unfold tfOps2
  after_reads_simp

set_option maxRecDepth 65536 in
/-- The third key word is kept. -/
theorem keep2_k2 (V : Valuation τ sig (Elt Ideal)) :
    after tfOps2 V (Proc.devRef .tc main_call0_call0_v1) = V (Proc.devRef .tc main_call0_call0_v1) := by
  unfold tfOps2
  after_reads_simp

/-- The whole hash, from its key and counter words. -/
def hash (k0 k1 x0 x1 : BitVec 32) : BitVec 32 × BitVec 32 :=
  have p := part0 k0 k1 x0 x1
  have q := part1 k0 (third k0 k1) p.1 p.2
  have s := part2 k0 k1 (third k0 k1) q.1 q.2
  part3 k0 (third k0 k1) s.1 s.2

/-- The four parts one after the other. -/
theorem hash_eq (V : Valuation τ sig (Elt Ideal)) (j : S64x1000000.Idx) (k0 k1 x0 x1 : BitVec 32)
    (h0 : spread (V (Proc.devRef .tc main_call0_v5)) j = k0) (h1 : spread (V (Proc.devRef .tc main_call0_v7)) j = k1)
    (hx : at64 (V (Proc.devRef .tc main_call0_v18)) j = x0) (hy : at64 (V (Proc.devRef .tc main_call0_v17)) j = x1) :
    at64 (after tfOps3 (after tfOps2 (after tfOps1 (after tfOps0 V))) (Proc.devRef .tc main_call0_v19_0)) j
        = (hash k0 k1 x0 x1).1
      ∧ at64 (after tfOps3 (after tfOps2 (after tfOps1 (after tfOps0 V))) (Proc.devRef .tc main_call0_v19_1)) j
        = (hash k0 k1 x0 x1).2 := by
  rw [part3_a, part3_b, part2_a, part2_b, part1_a, part1_b, part0_a, part0_b, keep2_k0, keep2_k2, keep1_k0, keep1_k1,
    keep1_k2, keep0_k0, keep0_k1, part0_key, h0, h1, hx, hy]
  exact ⟨rfl, rfl⟩

end Cert.ReferenceIdeal.Clean

end
-- ==== Proof.My.RefNoise.lean ====
/- The reference's random words and noise are the kernel's. -/
module

public import proofs.«01_k».proof.Proof.My.RefHash
public import Idealize.ShloMosaic.Lib.Pipeline.Frame

@[expose] public section

noncomputable section

namespace Cert.ReferenceIdeal.Clean

open Idealize.ShloMosaic Idealize.ShloMosaic.TcCoe Idealize.SL.Sem Idealize.ShloMosaic.StableHlo
open Cert.ReferenceIdeal Facts₀ Facts
open Idealize.ShloMosaic.ValueIdx
open Cert.Clean (addW mix rot bits unit noise)

variable [Facts]

/-- The round of the reference is the kernel's. -/
theorem stir_eq (a b r t : BitVec 32) : stir a b r t = mix a b r t := by
  unfold stir mix rot
  rw [shli_host, shrui_host]
  exact BitVec.xor_comm _ _

/-- Two additions of constants are one. -/
theorem addW_assoc (a b c : BitVec 32) : addW (addW a b) c = addW a (addW b c) := BitVec.add_assoc a b c

/-- The third key word. -/
theorem third_val : third 0#32 42#32 = 466689008#32 := by decide

/-- The reference's words from the key (0, 42) and the counter (0, `i`). -/
theorem hash_bits (i : BitVec 32) :
    IntOp.xori (hash 0#32 42#32 0#32 i).1 (hash 0#32 42#32 0#32 i).2 = bits i := by
  have e : stir = mix := by
    funext a b r t
    exact stir_eq a b r t
  have c0 : addW 0#32 0#32 = 0#32 := by decide
  have c1 : addW 466689008#32 1#32 = 466689009#32 := by decide
  have c2 : addW 0#32 2#32 = 2#32 := by decide
  have c3 : addW 42#32 3#32 = 45#32 := by decide
  have c4 : addW 466689008#32 4#32 = 466689012#32 := by decide
  have c5 : addW 0#32 5#32 = 5#32 := by decide
  unfold hash part0 part1 part2 part3
  rw [third_val, e]
  simp -zeta only [addW_assoc _ _ 1#32, addW_assoc _ _ 2#32, addW_assoc _ _ 3#32, addW_assoc _ _ 4#32,
    addW_assoc _ _ 5#32, c0, c1, c2, c3, c4, c5]
  rfl

set_option maxRecDepth 65536 in
/-- The first part of the key. -/
theorem key_low (V : Valuation τ sig (Elt Ideal)) :
    (after (keyOps.take 9) V (Proc.devRef .tc main_v15) : IVec S1 32) = fun _ => 0#32 := by
  unfold keyOps
  after_reads_simp
  funext i
  show IntOp.shrui .host 42#32 32#32 = 0#32
  decide

set_option maxRecDepth 65536 in
/-- The second part of the key. -/
theorem key_high (V : Valuation τ sig (Elt Ideal)) :
    (after (keyOps.take 9) V (Proc.devRef .tc main_v18) : IVec S1 32) = fun _ => 42#32 := by
  unfold keyOps
  after_reads_simp
  funext i
  show IntOp.andi 42#32 4294967295#32 = 42#32
  decide

set_option maxRecDepth 65536 in
/-- The key, from its two parts. -/
theorem key_join (V : Valuation τ sig (Elt Ideal))
    (h : (V (Proc.devRef .tc main_v15) : IVec S1 32) = fun _ => 0#32)
    (h' : (V (Proc.devRef .tc main_v18) : IVec S1 32) = fun _ => 42#32) :
    (after ((keyOps.drop 9).take 1) V (Proc.devRef .tc main_v19) : IVec S2 32)
      = fun i => if (i 0).val = 0 then 0#32 else 42#32 := by
  have e : (after ((keyOps.drop 9).take 1) V (Proc.devRef .tc main_v19) : IVec S2 32)
      = concatenate S2 0 [⟨S1, (V (Proc.devRef .tc main_v15) : IVec S1 32)⟩,
          ⟨S1, (V (Proc.devRef .tc main_v18) : IVec S1 32)⟩] concatenates_S1_S1_S2_d0 := rfl
  rw [e, h, h']
  funext i
  obtain ⟨k, rfl⟩ : ∃ k : Fin 2, i = ix1 k := ⟨i 0, eq_ix1 i⟩
  fin_cases k <;> rfl

set_option maxRecDepth 65536 in
/-- The first key word. -/
theorem word0 (V : Valuation τ sig (Elt Ideal)) (j : S64x1000000.Idx)
    (h : (V (Proc.devRef .tc main_v19) : IVec S2 32) = fun i => if (i 0).val = 0 then 0#32 else 42#32) :
    spread (after ((keyOps.drop 9).drop 1) V (Proc.devRef .tc main_call0_v5)) j = 0#32 := by
  unfold keyOps
  after_reads_simp
  rw [h]
  refine if_pos ?_
  simp
  exact Nat.lt_one_iff.mp (Fin.isLt _)

set_option maxRecDepth 65536 in
/-- The second key word. -/
theorem word1 (V : Valuation τ sig (Elt Ideal)) (j : S64x1000000.Idx)
    (h : (V (Proc.devRef .tc main_v19) : IVec S2 32) = fun i => if (i 0).val = 0 then 0#32 else 42#32) :
    spread (after ((keyOps.drop 9).drop 1) V (Proc.devRef .tc main_call0_v7)) j = 42#32 := by
  unfold keyOps
  after_reads_simp
  rw [h]
  exact if_neg (by simp)

/-- The key words. -/
theorem keys (V : Valuation τ sig (Elt Ideal)) (j : S64x1000000.Idx) :
    spread (after keyOps V (Proc.devRef .tc main_call0_v5)) j = 0#32
      ∧ spread (after keyOps V (Proc.devRef .tc main_call0_v7)) j = 42#32 := by
  have e : after keyOps V = after ((keyOps.drop 9).drop 1) (after ((keyOps.drop 9).take 1) (after (keyOps.take 9) V)) := by
    rw [← StableHlo.after_append, ← StableHlo.after_append, List.take_append_drop, List.take_append_drop]
  rw [e]
  exact ⟨word0 _ j (key_join _ (key_low V) (key_high V)), word1 _ j (key_join _ (key_low V) (key_high V))⟩

/-- The flat index of an entry, in 64 bits. -/
theorem flat64 (r : Fin 64) (l : Fin 1000000) :
    IntOp.addi (IntOp.muli 1000000#64 (BitVec.ofNat 64 r.val)) (IntOp.muli 1#64 (BitVec.ofNat 64 l.val))
      = BitVec.ofNat 64 (r.val * 1000000 + l.val) := by
  show 1000000#64 * BitVec.ofNat 64 r.val + 1#64 * BitVec.ofNat 64 l.val = _
  rw [BitVec.one_mul, BitVec.ofNat_add, BitVec.ofNat_mul, BitVec.mul_comm]

set_option maxRecDepth 65536 in
/-- The low counter word: the flat index. -/
theorem count_low (V : Valuation τ sig (Elt Ideal)) (r : Fin 64) (l : Fin 1000000) :
    at64 (after keyOps V (Proc.devRef .tc main_call0_v17)) (ix2 r l) = BitVec.ofNat 32 (r.val * 1000000 + l.val) := by
  unfold keyOps
  after_reads_simp
  show BitVec.setWidth 32 (IntOp.addi (IntOp.muli 1000000#64 (BitVec.ofNat 64 r.val)) (IntOp.muli 1#64 (BitVec.ofNat 64 l.val))) = _
  rw [flat64]
  exact BitVec.setWidth_ofNat_of_le (by decide) _

set_option maxRecDepth 65536 in
/-- The high counter word: zero. -/
theorem count_high (V : Valuation τ sig (Elt Ideal)) (r : Fin 64) (l : Fin 1000000) :
    at64 (after keyOps V (Proc.devRef .tc main_call0_v18)) (ix2 r l) = 0#32 := by
  unfold keyOps
  after_reads_simp
  show BitVec.setWidth 32 (IntOp.shrui .host (IntOp.addi (IntOp.muli 1000000#64 (BitVec.ofNat 64 r.val)) (IntOp.muli 1#64 (BitVec.ofNat 64 l.val))) 32#64) = _
  rw [flat64]
  have : IntOp.shrui .host (BitVec.ofNat 64 (r.val * 1000000 + l.val)) 32#64 = 0#64 := by
    unfold IntOp.shrui
    rw [if_pos (by decide)]
    apply BitVec.eq_of_toNat_eq
    have hr := r.isLt
    have hl := l.isLt
    rw [BitVec.ushiftRight_eq', BitVec.toNat_ushiftRight, BitVec.toNat_ofNat, Nat.shiftRight_eq_div_pow]
    have h : r.val * 1000000 + l.val < 4294967296 := by omega
    rw [Nat.mod_eq_of_lt (lt_of_lt_of_le h (by norm_num))]
    exact Nat.div_eq_of_lt h
  rw [this]
  rfl

set_option maxRecDepth 65536 in
/-- The hash keeps: the lower bound of the uniform numbers. -/
theorem hash_keeps_low (V : Valuation τ sig (Elt Ideal)) :
    after tfOps3 (after tfOps2 (after tfOps1 (after tfOps0 V))) (Proc.devRef .tc main_call0_v2) = V (Proc.devRef .tc main_call0_v2) := by
  unfold tfOps0 tfOps1 tfOps2 tfOps3
  after_reads_simp

set_option maxRecDepth 65536 in
/-- The hash keeps: the upper bound of the uniform numbers. -/
theorem hash_keeps_high (V : Valuation τ sig (Elt Ideal)) :
    after tfOps3 (after tfOps2 (after tfOps1 (after tfOps0 V))) (Proc.devRef .tc main_call0_v3) = V (Proc.devRef .tc main_call0_v3) := by
  unfold tfOps0 tfOps1 tfOps2 tfOps3
  after_reads_simp

set_option maxRecDepth 65536 in
/-- The hash keeps: the probabilities. -/
theorem hash_keeps_soft (V : Valuation τ sig (Elt Ideal)) :
    after tfOps3 (after tfOps2 (after tfOps1 (after tfOps0 V))) (Proc.devRef .tc main_v12) = V (Proc.devRef .tc main_v12) := by
  unfold tfOps0 tfOps1 tfOps2 tfOps3
  after_reads_simp

set_option maxRecDepth 65536 in
/-- The key and the counter leave the probabilities. -/
theorem key_keeps_soft (V : Valuation τ sig (Elt Ideal)) :
    after keyOps V (Proc.devRef .tc main_v12) = V (Proc.devRef .tc main_v12) := by
  unfold keyOps
  after_reads_simp

/-- The zero word is the number zero. -/
theorem zero_val : (FloatOps.ofBits (F := Ideal) .f32 0x00000000#32 : EReal) = 0 := by
  show Ideal.ieee 8 23 0x00000000#32 = 0
  unfold Ideal.ieee
  simp

/-- The word of one is the number one. -/
theorem one_val : (FloatOps.ofBits (F := Ideal) .f32 0x3F800000#32 : EReal) = 1 := by
  show Ideal.ieee 8 23 0x3F800000#32 = 1
  unfold Ideal.ieee
  simp
  rw [← EReal.coe_mul]
  norm_num

set_option maxRecDepth 65536 in
/-- The lower bound is zero. -/
theorem low_val (V : Valuation τ sig (Elt Ideal)) :
    (after keyOps V (Proc.devRef .tc main_call0_v2) : FVec Ideal S1x1 .f32) = fun _ => (0 : EReal) := by
  unfold keyOps
  after_reads_simp
  funext i
  exact zero_val

set_option maxRecDepth 65536 in
/-- The upper bound is one. -/
theorem high_val (V : Valuation τ sig (Elt Ideal)) :
    (after keyOps V (Proc.devRef .tc main_call0_v3) : FVec Ideal S1x1 .f32) = fun _ => (1 : EReal) := by
  unfold keyOps
  after_reads_simp
  funext i
  exact one_val

/-- Negative numbers and zero have the same logarithm. -/
theorem log_max_zero (x : EReal) : Ideal.log (max 0 x) = Ideal.log x := by
  rcases le_total 0 x with h | h
  · rw [max_eq_right h]
  · rw [max_eq_left h]
    have h0 : Ideal.log 0 = ⊥ := if_pos le_rfl
    rw [h0]
    induction x with
    | bot => rfl
    | top => exact absurd h (by simp)
    | coe r => exact (if_pos (EReal.coe_le_coe_iff.mp h)).symm

set_option maxRecDepth 65536 in
/-- The sum the reference maximizes, from the probabilities, the words and the bounds. -/
theorem sum_val (V : Valuation τ sig (Elt Ideal)) (j : S64x1000000.Idx) (w : BitVec 32)
    (hl : (V (Proc.devRef .tc main_call0_v2) : FVec Ideal S1x1 .f32) = fun _ => (0 : EReal))
    (hh : (V (Proc.devRef .tc main_call0_v3) : FVec Ideal S1x1 .f32) = fun _ => (1 : EReal))
    (hw : IntOp.xori (at64 (V (Proc.devRef .tc main_call0_v19_0)) j) (at64 (V (Proc.devRef .tc main_call0_v19_1)) j) = w) :
    (after gumOps V (Proc.devRef .tc main_v26) : FVec Ideal S64x1000000 .f32) j
      = (Ideal.log ((V (Proc.devRef .tc main_v12) : FVec Ideal S64x1000000 .f32) j) + noise w : EReal) := by
  unfold gumOps
  after_reads_simp
  rw [hl, hh]
  subst hw
  unfold noise unit
  rw [← shrui_host]
  show (Ideal.log _ + -Ideal.log (-Ideal.log (max (0 : EReal) (_ * ((1 : EReal) + -0) + 0))) : EReal) = _
  rw [neg_zero, add_zero, add_zero, mul_one, log_max_zero]
  rfl

end Cert.ReferenceIdeal.Clean

end
-- ==== Proof.My.RefSoft.lean ====
/- The reference's probabilities, entry by entry. -/
module

public import proofs.«01_k».proof.Proof.My.RefNoise

@[expose] public section

noncomputable section

namespace Cert.ReferenceIdeal.Clean

open Idealize.ShloMosaic Idealize.ShloMosaic.TcCoe Idealize.SL.Sem Idealize.ShloMosaic.StableHlo
open Cert.ReferenceIdeal Facts₀ Facts
open Idealize.ShloMosaic.ValueIdx

variable [Facts]

/-- One number per row, copied along the row. -/
abbrev along (f : FVec Ideal S64 .f32) : FVec Ideal S64x1000000 .f32 :=
  broadcastInDim S64x1000000 ![0, 1] bcast_S64x1_S64x1000000_0_1 (broadcastInDim S64x1 ![0] bcast_S64_S64x1_0 f)

/-- The input times one. -/
def scaled (x : FVec Ideal S64x1000000 .f32) : FVec Ideal S64x1000000 .f32 :=
  mulf x (broadcastInDim S64x1000000 ![] bcast_S_S64x1000000 (constant S_ .f32 0x3F800000#32 : FVec Ideal S_ .f32))

/-- The rows' largest entries. -/
def top (x : FVec Ideal S64x1000000 .f32) : FVec Ideal S64 .f32 :=
  maximumf (broadcastInDim S64 ![] bcast_S_S64 (constant S_ .f32 0xFF800000#32 : FVec Ideal S_ .f32))
    (Host.reduce FloatOps.maximumf (scaled x) (constant S_ .f32 0xFF800000#32 : FVec Ideal S_ .f32) reducesTo_S64x1000000_S64_d1 h_S_)

/-- The exponentials. -/
def exps (x : FVec Ideal S64x1000000 .f32) : FVec Ideal S64x1000000 .f32 := Host.exp (subf (scaled x) (along (top x)))

/-- The rows' sums of exponentials. -/
def sums (x : FVec Ideal S64x1000000 .f32) : FVec Ideal S64 .f32 :=
  Host.reduceAdd (exps x) (constant S_ .f32 0x00000000#32 : FVec Ideal S_ .f32) reducesTo_S64x1000000_S64_d1 h_S_

set_option maxRecDepth 65536 in
/-- The probabilities as an array. -/
theorem soft_read (V : Valuation τ sig (Elt Ideal)) :
    (after softOps V (Proc.devRef .tc main_v12) : FVec Ideal S64x1000000 .f32)
      = Host.divf (exps (V (Proc.devRef .tc main_arg0))) (along (sums (V (Proc.devRef .tc main_arg0)))) := by
  unfold softOps
  after_reads_simp
  rfl

theorem along_apply (f : FVec Ideal S64 .f32) (r : Fin 64) (l : Fin 1000000) : along f (ix2 r l) = f (ix1 r) := by
  refine congrArg f ?_
  funext a
  match a with
  | ⟨0, _⟩ => rfl

theorem scaled_apply (x : FVec Ideal S64x1000000 .f32) (i : S64x1000000.Idx) : (scaled x i : EReal) = x i := by
  show (x i : EReal) * (FloatOps.ofBits (F := Ideal) .f32 0x3F800000#32 : EReal) = x i
  rw [one_val, mul_one]

theorem reduces_row : S64x1000000.Reduces [1] S64 := by decide

theorem lift_row (r : Fin 64) (l : Fin 1000000) : reduces_row.lift (ix1 r) l = ix2 r l := by
  funext a
  match a with
  | ⟨0, _⟩ => rfl
  | ⟨1, _⟩ => rfl

theorem neg_inf : (FloatOps.ofBits (F := Ideal) .f32 0xFF800000#32 : EReal) = ⊥ := by
  show Ideal.ieee 8 23 0xFF800000#32 = ⊥
  unfold Ideal.ieee
  simp

/-- A maximum along one axis, started from minus infinity: the largest entry. -/
theorem max_reduce {s t u : Shape} {a : Fin s.rank} (h' : s.ReducesTo [a] t) (h : s.Reduces [a] t) (hu : 0 < u.numel)
    (x : FVec Ideal s .f32) (j : t.Idx) {n : ℕ} (hn : s.size a = n) (f : Fin n → EReal)
    (hf : ∀ k : Fin (s.size a), (x (h.lift j k) : EReal) = f (Fin.cast hn k)) (k0 : Fin n) (hk : ∀ l, f l ≤ f k0) :
    (Host.reduce (FloatOps.maximumf (F := Ideal) (φ := .f32)) x (constant u .f32 0xFF800000#32 : FVec Ideal u .f32) h' hu j : EReal)
      = f k0 := by
  subst hn
  refine Eq.trans (Host.reduce_eq_fold_single (FloatOps.maximumf (F := Ideal) (φ := .f32)) x _ h' h hu j) ?_
  show (Finset.univ : Finset (Fin (s.size a))).fold max (FloatOps.ofBits (F := Ideal) .f32 0xFF800000#32 : EReal)
    (fun l => x (h.lift j l)) = _
  rw [neg_inf]
  exact (Finset.fold_congr fun l _ => hf l).trans (Cert.KernelIdeal.Clean.fold_max_eq f k0 hk)

/-- A sum along one axis, started from zero. -/
theorem sum_reduce {s t u : Shape} {a : Fin s.rank} (h' : s.ReducesTo [a] t) (h : s.Reduces [a] t) (hu : 0 < u.numel)
    (x : FVec Ideal s .f32) (j : t.Idx) {n : ℕ} (hn : s.size a = n) (f : Fin n → EReal)
    (hf : ∀ k : Fin (s.size a), (x (h.lift j k) : EReal) = f (Fin.cast hn k)) :
    (Host.reduceAdd x (constant u .f32 0x00000000#32 : FVec Ideal u .f32) h' hu j : EReal) = ∑ k, f k := by
  subst hn
  refine Eq.trans (Ideal.hostReduceAdd_single h' h x (FloatOps.ofBits (F := Ideal) .f32 0x00000000#32 : EReal) j) ?_
  rw [zero_val, zero_add]
  exact Finset.sum_congr rfl fun l _ => hf l

/-- The larger of two arrays, entry by entry. -/
theorem maximumf_ideal {s : Shape} (x y : FVec Ideal s .f32) (i : s.Idx) : (maximumf x y i : EReal) = max (x i : EReal) (y i) := rfl

/-- A quotient of two arrays, entry by entry. -/
theorem divf_ideal {s : Shape} (x y : FVec Ideal s .f32) (i : s.Idx) : (Host.divf x y i : EReal) = Ideal.div (x i) (y i) := rfl

/-- The exponential of a difference of two arrays, entry by entry. -/
theorem exp_sub_ideal {s : Shape} (x y : FVec Ideal s .f32) (i : s.Idx) :
    (Host.exp (subf x y) i : EReal) = Ideal.exp ((x i : EReal) + -(y i : EReal)) := rfl

/-- A row's largest entry. -/
theorem top_apply (x : FVec Ideal S64x1000000 .f32) (r : Fin 64) (k0 : Fin 1000000)
    (hk : ∀ l, (x (ix2 r l) : EReal) ≤ x (ix2 r k0)) : (top x (ix1 r) : EReal) = x (ix2 r k0) := by
  have h := max_reduce reducesTo_S64x1000000_S64_d1 reduces_row h_S_ (scaled x) (ix1 r) (n := 1000000) rfl
    (fun l => (x (ix2 r l) : EReal)) (fun l => (scaled_apply x _).trans (congrArg x (lift_row r l))) k0 hk
  have b : (broadcastInDim S64 ![] bcast_S_S64 (constant S_ .f32 0xFF800000#32 : FVec Ideal S_ .f32) (ix1 r) : EReal) = ⊥ := neg_inf
  unfold top
  refine (maximumf_ideal _ _ _).trans ?_
  rw [b, max_eq_right bot_le]
  exact h

/-- An exponential. -/
theorem exps_apply (x : FVec Ideal S64x1000000 .f32) (r : Fin 64) (k0 : Fin 1000000)
    (hk : ∀ l, (x (ix2 r l) : EReal) ≤ x (ix2 r k0)) (l : Fin 1000000) :
    (exps x (ix2 r l) : EReal) = Ideal.exp ((x (ix2 r l) : EReal) + -(x (ix2 r k0) : EReal)) := by
  unfold exps
  rw [exp_sub_ideal, scaled_apply, along_apply, top_apply x r k0 hk]

/-- A row's sum of exponentials. -/
theorem sums_apply (x : FVec Ideal S64x1000000 .f32) (r : Fin 64) (k0 : Fin 1000000)
    (hk : ∀ l, (x (ix2 r l) : EReal) ≤ x (ix2 r k0)) :
    (sums x (ix1 r) : EReal) = ∑ l : Fin 1000000, Ideal.exp ((x (ix2 r l) : EReal) + -(x (ix2 r k0) : EReal)) := by
  exact sum_reduce reducesTo_S64x1000000_S64_d1 reduces_row h_S_ (exps x) (ix1 r) (n := 1000000) rfl
    (fun l => Ideal.exp ((x (ix2 r l) : EReal) + -(x (ix2 r k0) : EReal)))
    (fun l => (congrArg (exps x) (lift_row r l)).trans (exps_apply x r k0 hk l))

/-- A probability. -/
theorem soft_val (V : Valuation τ sig (Elt Ideal)) (x : FVec Ideal S64x1000000 .f32)
    (hx : (V (Proc.devRef .tc main_arg0) : FVec Ideal S64x1000000 .f32) = x) (r : Fin 64) (k0 : Fin 1000000)
    (hk : ∀ l, (x (ix2 r l) : EReal) ≤ x (ix2 r k0)) (l : Fin 1000000) :
    ((after softOps V (Proc.devRef .tc main_v12) : FVec Ideal S64x1000000 .f32) (ix2 r l) : EReal)
      = Ideal.div (Ideal.exp ((x (ix2 r l) : EReal) + -(x (ix2 r k0) : EReal)))
          (∑ t : Fin 1000000, Ideal.exp ((x (ix2 r t) : EReal) + -(x (ix2 r k0) : EReal))) := by
  rw [soft_read, hx]
  rw [divf_ideal, along_apply, exps_apply x r k0 hk, sums_apply x r k0 hk]

end Cert.ReferenceIdeal.Clean

end
-- ==== Proof.My.RefPick.lean ====
/- The reference's choice: the first index of a row's largest sum. -/
module

public import proofs.«01_k».proof.Proof.My.RefRun
public import proofs.«01_k».proof.Proof.My.Best
public import Idealize.ShloMosaic.Lib.ValueIdx
public import Idealize.ShloMosaic.Lib.StableHlo.RunRead

@[expose] public section

noncomputable section

namespace Cert.ReferenceIdeal.Clean

open Idealize.ShloMosaic Idealize.ShloMosaic.TcCoe Idealize.SL.Sem Idealize.ShloMosaic.StableHlo
open Cert.ReferenceIdeal Facts₀ Facts
open Idealize.ShloMosaic.ValueIdx
open Cert.Clean

/-- A number with its index. -/
abbrev Cand : Type := EReal × BitVec 32

/-- `p` is at least as good a choice as `q`: larger, or equal and not later. -/
def Beats (p q : Cand) : Prop := q.1 < p.1 ∨ (p.1 = q.1 ∧ p.2.toNat ≤ q.2.toNat)

theorem Beats.refl (p : Cand) : Beats p p := Or.inr ⟨rfl, le_rfl⟩

theorem Beats.trans {p q r : Cand} (h : Beats p q) (h' : Beats q r) : Beats p r := by
  rcases h with h | ⟨h, k⟩
  · rcases h' with h' | ⟨h', _⟩
    · exact Or.inl (h'.trans h)
    · exact Or.inl (h' ▸ h)
  · rcases h' with h' | ⟨h', k'⟩
    · exact Or.inl (h ▸ h')
    · exact Or.inr ⟨h.trans h', k.trans k'⟩

/-- Small words compare as their numbers. -/
theorem slt_small {x y : BitVec 32} (hx : x.toNat < 2 ^ 31) (hy : y.toNat < 2 ^ 31) :
    IntOp.cmpi .slt x y = BitVec.ofBool (decide (x.toNat < y.toNat)) := by
  show BitVec.ofBool (x.slt y) = _
  rw [BitVec.slt_eq_decide, BitVec.toInt_eq_toNat_of_lt (by omega), BitVec.toInt_eq_toNat_of_lt (by omega)]
  simp

/-- One step of the reference's choice. -/
theorem pick_step (p q : Cand) (hp : p.2.toNat < 2 ^ 31) (hq : q.2.toNat < 2 ^ 31) :
    (reducer_argmax_f32_i32 (F := Ideal) p q : Cand)
      = if q.1 < p.1 ∨ (p.1 = q.1 ∧ p.2.toNat < q.2.toNat) then p else q := by
  obtain ⟨a, k⟩ := p
  obtain ⟨b, l⟩ := q
  have e : (reducer_argmax_f32_i32 (F := Ideal) (a, k) (b, l) : Cand)
      = (Scalar.select (IntOp.ori (BitVec.ofBool (decide (b < a))) (BitVec.ofBool (decide (a ≠ a)))) a b,
          Scalar.select (IntOp.ori (IntOp.ori (BitVec.ofBool (decide (b < a))) (BitVec.ofBool (decide (a ≠ a))))
            (IntOp.andi (BitVec.ofBool (decide (a = b))) (IntOp.cmpi .slt k l))) k l) := rfl
  rw [e, slt_small hp hq]
  have hne : decide (a ≠ a) = false := by simp
  rw [hne]
  by_cases h1 : b < a
  · rw [decide_eq_true h1, if_pos (Or.inl h1)]
    by_cases h2 : a = b
    · exact absurd h1 (h2 ▸ lt_irrefl _)
    · rw [decide_eq_false h2]
      by_cases h3 : k.toNat < l.toNat
      · rw [decide_eq_true h3]; rfl
      · rw [decide_eq_false h3]; rfl
  · rw [decide_eq_false h1]
    by_cases h2 : a = b
    · rw [decide_eq_true h2]
      subst h2
      by_cases h3 : k.toNat < l.toNat
      · rw [decide_eq_true h3, if_pos (Or.inr ⟨rfl, h3⟩)]; rfl
      · rw [decide_eq_false h3, if_neg (by rintro (h | h); exacts [h1 h, h3 h.2])]; rfl
    · rw [decide_eq_false h2, if_neg (by rintro (h | h); exacts [h1 h, h2 h.1])]
      by_cases h3 : k.toNat < l.toNat
      · rw [decide_eq_true h3]; rfl
      · rw [decide_eq_false h3]; rfl

/-- The step's result is one of the two, and beats both. -/
theorem pick_step_spec (p q : Cand) (hp : p.2.toNat < 2 ^ 31) (hq : q.2.toNat < 2 ^ 31) :
    ((reducer_argmax_f32_i32 (F := Ideal) p q : Cand) = p ∧ Beats p q)
      ∨ ((reducer_argmax_f32_i32 (F := Ideal) p q : Cand) = q ∧ Beats q p) := by
  rw [pick_step p q hp hq]
  split_ifs with h
  · exact Or.inl ⟨rfl, h.imp id (fun h => ⟨h.1, h.2.le⟩)⟩
  · refine Or.inr ⟨rfl, ?_⟩
    rcases lt_trichotomy p.1 q.1 with h1 | h1 | h1
    · exact Or.inl h1
    · exact Or.inr ⟨h1.symm, not_lt.mp fun h3 => h (Or.inr ⟨h1, h3⟩)⟩
    · exact absurd (Or.inl h1) h

/-- The choice over a list: one of its entries, or the start, that beats them all. -/
theorem pick_list (L : List Cand) (p : Cand) (hp : p.2.toNat < 2 ^ 31) (hL : ∀ q ∈ L, q.2.toNat < 2 ^ 31) :
    (L.foldl (reducer_argmax_f32_i32 (F := Ideal)) p : Cand) ∈ p :: L
      ∧ ∀ q ∈ p :: L, Beats (L.foldl (reducer_argmax_f32_i32 (F := Ideal)) p) q := by
  induction L generalizing p with
  | nil =>
    refine ⟨List.mem_singleton.mpr rfl, fun q hq => ?_⟩
    rw [List.mem_singleton.mp hq]
    exact Beats.refl p
  | cons a L ih =>
    rw [List.foldl_cons]
    have ha := hL a List.mem_cons_self
    have hL' : ∀ q ∈ L, q.2.toNat < 2 ^ 31 := fun q hq => hL q (List.mem_cons_of_mem _ hq)
    rcases pick_step_spec p a hp ha with ⟨e, hb⟩ | ⟨e, hb⟩
    · rw [e]
      obtain ⟨h1, h2⟩ := ih p hp hL'
      refine ⟨?_, fun q hq => ?_⟩
      · rcases List.mem_cons.mp h1 with h | h
        · exact List.mem_cons.mpr (Or.inl h)
        · exact List.mem_cons_of_mem _ (List.mem_cons_of_mem _ h)
      · rcases List.mem_cons.mp hq with rfl | hq
        · exact h2 _ List.mem_cons_self
        · rcases List.mem_cons.mp hq with rfl | hq
          · exact (h2 _ List.mem_cons_self).trans hb
          · exact h2 q (List.mem_cons_of_mem _ hq)
    · rw [e]
      obtain ⟨h1, h2⟩ := ih a ha hL'
      refine ⟨List.mem_cons_of_mem _ h1, fun q hq => ?_⟩
      rcases List.mem_cons.mp hq with rfl | hq
      · exact (h2 _ List.mem_cons_self).trans hb
      · exact h2 q hq

variable [Facts]

/-- Dropping the column leaves the row. -/
theorem drop_row (r : Fin 64) (l : Fin 1000000) :
    (reducesTo_S64x1000000_S64_d1 : S64x1000000.ReducesTo [1] S64).drop (ix2 r l) = ix1 r := by
  funext a
  match a with
  | ⟨0, _⟩ => exact Fin.ext (Shape.ReducesTo.drop_apply_val_of_eq
      (reducesTo_S64x1000000_S64_d1 : S64x1000000.ReducesTo [1] S64) (ix2 r l) 0 0)

/-- The index the reference picks in row `r` of the array `x`. -/
theorem pick_row (x : FVec Ideal S64x1000000 .f32) (r : Fin 64) :
    ∃ k, (Host.argReduce reducer_argmax_f32_i32 x (iotaInDim S64x1000000 32 1) (constant S_ .f32 0xFF800000#32 : FVec Ideal S_ .f32)
        (constantI S_ 32 0#32) reducesTo_S64x1000000_S64_d1 h_S_ (ix1 r)).2 = BitVec.ofNat 32 k
      ∧ ∀ s : ℕ → EReal, (∀ l : Fin 1000000, s l.val = x (ix2 r l)) → Best s 0 1000000 (s k) k := by
  rw [Ideal.argReduce_eq_reduce2, Host.reduce2_eq_foldl_fiber]
  have hbot : (FloatOps.ofBits (F := Ideal) .f32 0xFF800000#32 : EReal) = ⊥ := by
    show Ideal.ieee 8 23 0xFF800000#32 = ⊥
    unfold Ideal.ieee
    simp
  show ∃ k, ((Host.argReduceFiber x (iotaInDim S64x1000000 32 1) reducesTo_S64x1000000_S64_d1 (ix1 r)).foldl
      reducer_argmax_f32_i32 ((FloatOps.ofBits (F := Ideal) .f32 0xFF800000#32 : EReal), 0#32)).2 = BitVec.ofNat 32 k ∧ _
  rw [hbot]
  generalize hL : Host.argReduceFiber x (iotaInDim S64x1000000 32 1) reducesTo_S64x1000000_S64_d1 (ix1 r) = L
  have hin : ∀ l : Fin 1000000, ((x (ix2 r l), BitVec.ofNat 32 l.val) : Cand) ∈ L := by
    intro l
    rw [← hL]
    unfold Host.argReduceFiber
    refine List.mem_map.mpr ⟨S64x1000000.rowMajor (ix2 r l), List.mem_filter.mpr ⟨List.mem_finRange _, ?_⟩, ?_⟩
    · rw [Equiv.symm_apply_apply, drop_row]
      simp
    · rw [Equiv.symm_apply_apply]
      rfl
  have hout : ∀ q ∈ L, ∃ l : Fin 1000000, q = ((x (ix2 r l), BitVec.ofNat 32 l.val) : Cand) := by
    intro q hq
    rw [← hL] at hq
    unfold Host.argReduceFiber at hq
    obtain ⟨n, hn, rfl⟩ := List.mem_map.mp hq
    have hd := (List.mem_filter.mp hn).2
    generalize S64x1000000.rowMajor.symm n = i at hd ⊢
    obtain ⟨r', l, rfl⟩ : ∃ (r' : Fin 64) (l : Fin 1000000), i = ix2 r' l := ⟨i 0, i 1, eq_ix2 i⟩
    rw [drop_row] at hd
    have hr : r' = r := by
      have := of_decide_eq_true hd
      exact congrFun this 0
    subst hr
    exact ⟨l, rfl⟩
  have hsm : ∀ l : Fin 1000000, (BitVec.ofNat 32 l.val).toNat = l.val := by
    intro l
    have := l.isLt
    rw [BitVec.toNat_ofNat]
    omega
  obtain ⟨h1, h2⟩ := pick_list L ((⊥, 0#32) : Cand) (by decide) (by
    intro q hq
    obtain ⟨l, rfl⟩ := hout q hq
    show (BitVec.ofNat 32 l.val).toNat < _
    rw [hsm l]
    have := l.isLt
    omega)
  generalize L.foldl (reducer_argmax_f32_i32 (F := Ideal)) ((⊥, 0#32) : Cand) = c at h1 h2
  have hb : ∀ l : Fin 1000000, Beats c ((x (ix2 r l), BitVec.ofNat 32 l.val) : Cand) :=
    fun l => h2 _ (List.mem_cons_of_mem _ (hin l))
  rcases List.mem_cons.mp h1 with h | h
  · subst h
    refine ⟨0, rfl, fun s hs => ⟨le_rfl, by omega, rfl, fun j _ hj => ?_, fun j _ hj => absurd hj (by omega)⟩⟩
    have := hb ⟨j, hj⟩
    have hj' : s j = ⊥ := by
      rw [hs ⟨j, hj⟩]
      rcases this with h | ⟨h, _⟩
      · exact absurd h not_lt_bot
      · exact h.symm
    rw [hj']
    exact bot_le
  · obtain ⟨l, rfl⟩ := hout c h
    refine ⟨l.val, rfl, fun s hs => ⟨Nat.zero_le _, l.isLt, rfl, fun j _ hj => ?_, fun j _ hj => ?_⟩⟩
    · rw [hs l, hs ⟨j, hj⟩]
      rcases hb ⟨j, hj⟩ with h | ⟨h, _⟩
      · exact h.le
      · exact h.symm.le
    · have hj' : j < 1000000 := hj.trans l.isLt
      rw [hs l, hs ⟨j, hj'⟩]
      rcases hb ⟨j, hj'⟩ with h | ⟨_, h⟩
      · exact h
      · have h' : (BitVec.ofNat 32 l.val).toNat ≤ (BitVec.ofNat 32 (⟨j, hj'⟩ : Fin 1000000).val).toNat := h
        rw [hsm, hsm] at h'
        exact absurd hj (not_lt.mpr h')

set_option maxRecDepth 65536 in
/-- The reference's answers, from the sums. -/
theorem pick_read (V : Valuation τ sig (Elt Ideal)) :
    (after argOps V (Proc.devRef .tc main_v28) : IVec S64x1 32)
      = broadcastInDim S64x1 ![0] bcast_S64_S64x1_0 (fun j => (Host.argReduce reducer_argmax_f32_i32
          (V (Proc.devRef .tc main_v26) : FVec Ideal S64x1000000 .f32) (iotaInDim S64x1000000 32 1)
          (constant S_ .f32 0xFF800000#32 : FVec Ideal S_ .f32) (constantI S_ 32 0#32) reducesTo_S64x1000000_S64_d1 h_S_ j).2) := by
  unfold argOps
  after_reads_simp

/-- A list as a column. -/
theorem as_column (f : IVec S64 32) (r : Fin 64) : broadcastInDim S64x1 ![0] bcast_S64_S64x1_0 f (ix2 r (0 : Fin 1)) = f (ix1 r) := by
  refine congrArg f ?_
  funext a
  match a with
  | ⟨0, _⟩ => rfl

/-- The reference's answer for row `r`, from the sums. -/
theorem pick_val (V : Valuation τ sig (Elt Ideal)) (r : Fin 64) :
    ∃ k, (after argOps V (Proc.devRef .tc main_v28) : IVec S64x1 32) (ix2 r (0 : Fin 1)) = BitVec.ofNat 32 k
      ∧ ∀ s : ℕ → EReal, (∀ l : Fin 1000000, s l.val = (V (Proc.devRef .tc main_v26) : FVec Ideal S64x1000000 .f32) (ix2 r l)) →
          Best s 0 1000000 (s k) k := by
  obtain ⟨k, h, hk⟩ := pick_row (V (Proc.devRef .tc main_v26)) r
  refine ⟨k, ?_, hk⟩
  refine Eq.trans ?_ h
  exact (congrFun (pick_read V) _).trans (as_column _ r)

end Cert.ReferenceIdeal.Clean

end
-- ==== Proof.My.Shift.lean ====
/-
  The logarithm of a softmax is the row less one number: adding the same noise to both gives the same order.
-/
module

public import proofs.«01_k».proof.Proof.My.Best

@[expose] public section

noncomputable section

namespace Cert.Clean

open Idealize.ShloMosaic

/-- A sum of real numbers, as an extended real. -/
theorem sum_coe {n : ℕ} (f : Fin n → ℝ) : ∑ k, (f k : EReal) = ((∑ k, f k : ℝ) : EReal) := by
  induction (Finset.univ : Finset (Fin n)) using Finset.induction_on with
  | empty => simp
  | insert a s ha ih => rw [Finset.sum_insert ha, Finset.sum_insert ha, ih, EReal.coe_add]

/-- Adding a real number keeps the order. -/
theorem add_real_lt_iff (x y : EReal) (c : ℝ) : x + c < y + c ↔ x < y := by
  constructor
  · intro h
    by_contra hn
    exact absurd (add_le_add_left (not_lt.mp hn) (c : EReal)) (not_le.mpr h)
  · intro h
    exact EReal.add_lt_add_right_coe h c

/-- The logarithm of a softmax: the row shifted by a real number, or nothing but minus infinity when the row is. -/
theorem log_soft {n : ℕ} (x : Fin n → EReal) (hx : ∀ k, x k < ⊤) (k0 : Fin n) (hk : ∀ k, x k ≤ x k0) :
    (∀ k, x k = ⊥ ∧ Ideal.log (Ideal.div (Ideal.exp (x k + -x k0)) (∑ i, Ideal.exp (x i + -x k0))) = ⊥)
      ∨ ∃ c : ℝ, ∀ k, Ideal.log (Ideal.div (Ideal.exp (x k + -x k0)) (∑ i, Ideal.exp (x i + -x k0))) = x k + c := by
  induction hm : x k0 with
  | top => exact absurd (hx k0) (by rw [hm]; exact lt_irrefl _)
  | bot =>
    left
    intro k
    have hb : ∀ i, x i = ⊥ := fun i => le_bot_iff.mp (hm ▸ hk i)
    have h0 : ∀ i, Ideal.exp (x i + -⊥) = 0 := by
      intro i
      rw [hb i, EReal.bot_add]
      rfl
    refine ⟨hb k, ?_⟩
    simp only [h0, Finset.sum_const_zero]
    have hd : Ideal.div 0 0 = ⊥ := by
      unfold Ideal.div
      rw [if_pos rfl, if_neg (lt_irrefl _)]
    rw [hd]
    rfl
  | coe m =>
    right
    have ht : ∀ i, Ideal.exp (x i + -(m : EReal)) = ((if x i = ⊥ then 0 else Real.exp ((x i).toReal - m) : ℝ) : EReal) := by
      intro i
      have hi := hx i
      generalize x i = y at hi ⊢
      induction y with
      | top => exact absurd hi (lt_irrefl _)
      | bot => rw [if_pos rfl, EReal.bot_add]; rfl
      | coe a =>
        rw [if_neg (EReal.coe_ne_bot a), EReal.toReal_coe, ← EReal.coe_neg, ← EReal.coe_add, ← sub_eq_add_neg]
        rfl
    have hpos : 0 < ∑ i, (if x i = ⊥ then 0 else Real.exp ((x i).toReal - m) : ℝ) := by
      refine lt_of_lt_of_le ?_ (Finset.single_le_sum (fun i _ => ?_) (Finset.mem_univ k0))
      · rw [if_neg (by rw [hm]; exact EReal.coe_ne_bot m)]
        exact Real.exp_pos _
      · split_ifs
        · exact le_rfl
        · exact (Real.exp_pos _).le
    simp only [ht]
    rw [sum_coe]
    generalize (∑ i, (if x i = ⊥ then 0 else Real.exp ((x i).toReal - m) : ℝ)) = s at hpos
    refine ⟨-m - Real.log s, fun k => ?_⟩
    have hs : (s : EReal) ≠ 0 := by
      rw [Ne, EReal.coe_eq_zero]
      exact hpos.ne'
    unfold Ideal.div
    rw [if_neg hs, ← EReal.coe_inv, ← EReal.coe_mul]
    have hi := hx k
    generalize x k = y at hi ⊢
    induction y with
    | top => exact absurd hi (lt_irrefl _)
    | bot =>
      rw [if_pos rfl, zero_mul, EReal.bot_add]
      exact if_pos le_rfl
    | coe a =>
      rw [if_neg (EReal.coe_ne_bot a), EReal.toReal_coe]
      have hp : 0 < Real.exp (a - m) * s⁻¹ := mul_pos (Real.exp_pos _) (inv_pos.mpr hpos)
      refine (if_neg (not_le.mpr hp)).trans ?_
      rw [Real.log_mul (Real.exp_pos _).ne' (inv_pos.mpr hpos).ne', Real.log_exp, Real.log_inv, ← EReal.coe_add]
      congr 1
      ring

/-- With the same noise on both sides, the row and the logarithm of its softmax have the same order. -/
theorem soft_order {n : ℕ} (x g : Fin n → EReal) (hx : ∀ k, x k < ⊤) (k0 : Fin n) (hk : ∀ k, x k ≤ x k0) (i j : Fin n) :
    x i + g i < x j + g j
      ↔ Ideal.log (Ideal.div (Ideal.exp (x i + -x k0)) (∑ t, Ideal.exp (x t + -x k0))) + g i
        < Ideal.log (Ideal.div (Ideal.exp (x j + -x k0)) (∑ t, Ideal.exp (x t + -x k0))) + g j := by
  rcases log_soft x hx k0 hk with h | ⟨c, h⟩
  · rw [(h i).2, (h j).2, (h i).1, (h j).1]
  · rw [h i, h j, add_right_comm, add_right_comm (x j), add_real_lt_iff]

end Cert.Clean

end
-- ==== Proof.My.RefValue.lean ====
/- The reference's result: in every row the first index of the largest sum of the row and its noise. -/
module

public import proofs.«01_k».proof.Proof.My.RefSoft
public import proofs.«01_k».proof.Proof.My.RefPick
public import proofs.«01_k».proof.Proof.My.Shift

@[expose] public section

noncomputable section

namespace Cert.ReferenceIdeal.Clean

open Idealize.ShloMosaic Idealize.ShloMosaic.TcCoe Idealize.SL.Sem Idealize.ShloMosaic.StableHlo
open Cert.ReferenceIdeal Facts₀ Facts
open Idealize.ShloMosaic.ValueIdx
open Cert.Clean (Best bits noise soft_order)

variable [Facts]

set_option maxRecDepth 65536 in
/-- The first part leaves the argument. -/
theorem soft_keeps_arg (V : Valuation τ sig (Elt Ideal)) :
    after softOps V (Proc.devRef .tc main_arg0) = V (Proc.devRef .tc main_arg0) := by
  unfold softOps
  after_reads_simp

/-- The contents before the last part. -/
def before (V : Valuation τ sig (Elt Ideal)) : Valuation τ sig (Elt Ideal) :=
  after gumOps (after tfOps3 (after tfOps2 (after tfOps1 (after tfOps0 (after keyOps (after softOps V))))))

/-- The parts one after the other. -/
theorem ops_parts (V : Valuation τ sig (Elt Ideal)) : after ops V = after argOps (before V) := by
  unfold ops before
  simp only [StableHlo.after_append]

/-- The noise at row `r` and column `l`. -/
def rowNoise (r : Fin 64) (l : ℕ) : EReal := noise (bits (BitVec.ofNat 32 (r.val * 1000000 + l)))

/-- The sum at an entry: the logarithm of the probability and the noise. -/
theorem sum_at (V : Valuation τ sig (Elt Ideal)) (r : Fin 64) (l : Fin 1000000) :
    ((before V (Proc.devRef .tc main_v26) : FVec Ideal S64x1000000 .f32) (ix2 r l) : EReal)
      = (Ideal.log ((after softOps V (Proc.devRef .tc main_v12) : FVec Ideal S64x1000000 .f32) (ix2 r l)) + rowNoise r l.val : EReal) := by
  unfold before rowNoise
  generalize after softOps V = W
  have hk := keys W (ix2 r l)
  have hh := hash_eq (after keyOps W) (ix2 r l) 0#32 42#32 0#32 (BitVec.ofNat 32 (r.val * 1000000 + l.val))
    hk.1 hk.2 (count_high W r l) (count_low W r l)
  have hw := hash_bits (BitVec.ofNat 32 (r.val * 1000000 + l.val))
  rw [← hh.1, ← hh.2] at hw
  refine (sum_val _ (ix2 r l) _ ?_ ?_ hw).trans ?_
  · exact (hash_keeps_low _).trans (low_val W)
  · exact (hash_keeps_high _).trans (high_val W)
  · rw [hash_keeps_soft, key_keeps_soft]

/-- The reference's answer in row `r`, for an input below plus infinity: the first largest sum of entry and noise. -/
theorem ref_value (V : Valuation τ sig (Elt Ideal)) (x : FVec Ideal S64x1000000 .f32)
    (hV : (V (Proc.devRef .tc main_arg0) : FVec Ideal S64x1000000 .f32) = x) (hx : ∀ i, (x i : EReal) < ⊤) (r : Fin 64) :
    ∃ k, (after ops V (Proc.devRef .tc main_v28) : IVec S64x1 32) (ix2 r (0 : Fin 1)) = BitVec.ofNat 32 k
      ∧ ∀ s : ℕ → EReal, (∀ l : Fin 1000000, s l.val = (x (ix2 r l) : EReal) + rowNoise r l.val) → Best s 0 1000000 (s k) k := by
  obtain ⟨k0, hk0⟩ : ∃ k0 : Fin 1000000, ∀ l, (x (ix2 r l) : EReal) ≤ x (ix2 r k0) :=
    haveI : Nonempty (Fin 1000000) := ⟨⟨0, by omega⟩⟩
    Finite.exists_max (fun l : Fin 1000000 => (x (ix2 r l) : EReal))
  obtain ⟨k, h, hk⟩ := pick_val (before V) r
  refine ⟨k, (congrArg (fun W : Valuation τ sig (Elt Ideal) => (W (Proc.devRef .tc main_v28) : IVec S64x1 32) (ix2 r (0 : Fin 1)))
    (ops_parts V)).trans h, fun s hs => ?_⟩
  have hb := hk (fun j => if hj : j < 1000000 then ((before V (Proc.devRef .tc main_v26) : FVec Ideal S64x1000000 .f32) (ix2 r ⟨j, hj⟩) : EReal) else ⊥)
    (fun l => dif_pos l.isLt)
  refine hb.congr_order fun i j _ hi _ hj => ?_
  rw [dif_pos hi, dif_pos hj, sum_at, sum_at, soft_val V x hV r k0 hk0, soft_val V x hV r k0 hk0]
  have hsi := hs ⟨i, hi⟩
  have hsj := hs ⟨j, hj⟩
  rw [show s i = _ from hsi, show s j = _ from hsj]
  exact (soft_order (fun l : Fin 1000000 => (x (ix2 r l) : EReal)) (fun l => rowNoise r l.val) (fun l => hx _) k0 hk0 ⟨i, hi⟩ ⟨j, hj⟩).symm

end Cert.ReferenceIdeal.Clean

end
-- ==== Proof.My.Agree.lean ====
/- The kernel and the reference give the same result on every input below plus infinity. -/
module

public import proofs.«01_k».proof.Proof.My.Frames
public import proofs.«01_k».proof.Proof.My.KernelValue
public import proofs.«01_k».proof.Proof.My.RefValue

@[expose] public section

noncomputable section

namespace Cert.Clean

open Idealize.ShloMosaic Idealize.ShloMosaic.TcCoe Idealize.SL.Sem
open Idealize.ShloMosaic.ValueIdx

/-- The precondition's one side condition: a number copied to every entry. -/
theorem below_facts : Cert.Pre_below_infinity.Facts := ⟨by decide⟩

/-- The word of plus infinity. -/
theorem pos_inf : (FloatOps.ofBits (F := Ideal) .f32 0x7F800000#32 : EReal) = ⊤ := by
  show Ideal.ieee 8 23 0x7F800000#32 = ⊤
  unfold Ideal.ieee
  simp

/-- The precondition says that every entry is below plus infinity. -/
theorem below_of_pre (x : FVec Ideal Cert.Pre_below_infinity.S64x1000000 .f32)
    (h : @Cert.Pre_below_infinity.fn below_facts Ideal _ x = fun _ => 1#1) (i : Cert.Pre_below_infinity.S64x1000000.Idx) :
    (x i : EReal) < ⊤ := by
  have hi : BitVec.ofBool (decide ((x i : EReal) < (FloatOps.ofBits (F := Ideal) .f32 0x7F800000#32 : EReal))) = 1#1 := congrFun h i
  rw [pos_inf] at hi
  by_contra hn
  rw [decide_eq_false hn] at hi
  exact absurd hi (by decide)

/-- The two results agree, entry by entry. -/
theorem values_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_below_infinity (hPre_below_infinity := below_facts) m) (c : Dev Cert.KernelIdeal.nD)
    (hm : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    (Cert.ReferenceIdeal.Clean.ended m' c (Proc.devRef .tc Cert.ReferenceIdeal.main_v28)
        : IVec Cert.KernelIdeal.S64x1 32)
      = (Cert.KernelIdeal.Clean.ended m c Cert.KernelIdeal.main_v0 : IVec Cert.KernelIdeal.S64x1 32) := by
  funext i
  obtain ⟨r, l, rfl⟩ : ∃ (r : Fin 64) (l : Fin 1), i = ix2 r l := ⟨i 0, i 1, eq_ix2 i⟩
  obtain rfl : l = 0 := Subsingleton.elim _ _
  obtain ⟨k, v, hk, hb⟩ := Cert.KernelIdeal.Clean.kernel_value c m r
  obtain ⟨k', hk', hb'⟩ := Cert.ReferenceIdeal.Clean.ref_value
    (StableHlo.launchContents m' c)
    (m ((c.tc : Thread Cert.KernelIdeal.nD Cert.KernelIdeal.τ).loc Cert.KernelIdeal.main_arg0)) hm
    (fun i => below_of_pre _ (hpre c) i) r
  have hs := hb' (Cert.KernelIdeal.Clean.score (Cert.KernelIdeal.Clean.row
      (fun c => m ((c.tc : Thread Cert.KernelIdeal.nD Cert.KernelIdeal.τ).loc Cert.KernelIdeal.main_arg0)) c) r) (fun l => by
    unfold Cert.KernelIdeal.Clean.score Cert.KernelIdeal.Clean.row Cert.ReferenceIdeal.Clean.rowNoise
    rw [dif_pos l.isLt])
  refine Eq.trans hk' (Eq.trans ?_ hk.symm)
  rw [hs.unique hb]

/-- Over the extended reals the kernel and the reference leave the same result. -/
theorem agree : Cert.algebraic_KernelIdeal_ReferenceIdeal_pre_below_infinity (hKernelIdeal := Cert.KernelIdeal.Gen.facts)
    (hReferenceIdeal := Cert.ReferenceIdeal.Gen.facts) (hPre_below_infinity := below_facts) := fun m g m' g' hpre hm =>
  ⟨fun c => Cert.KernelIdeal.Clean.ended m c Cert.KernelIdeal.main_v0,
    (θ_run _ _ _).mono (fun _ h c => ⟨(h.1 c).2, (h.1 c).1⟩) (Cert.KernelIdeal.Clean.run m g),
    (θ_run _ _ _).mono (fun _ h c => ⟨((h.1 c).2).trans (values_agree m m' hpre c (hm c)), (h.1 c).1⟩)
      (Cert.ReferenceIdeal.Clean.run m' g')⟩

/-- The frame of the kernel over the extended reals, under the precondition. -/
theorem ideal_frame_below : Cert.quiescent_KernelIdeal_pre_below_infinity (hKernelIdeal := Cert.KernelIdeal.Gen.facts)
    (hPre_below_infinity := below_facts) := fun m ρ _ =>
  (θ_run _ _ _).mono (fun _ h => ⟨fun c => (h.1 c).1, h.2⟩) (Cert.KernelIdeal.Clean.run m ρ)

/-- The frame of the reference, under the precondition. -/
theorem reference_frame_below : Cert.quiescent_ReferenceIdeal_pre_below_infinity (hReferenceIdeal := Cert.ReferenceIdeal.Gen.facts)
    (hPre_below_infinity := below_facts) := fun m ρ _ =>
  (θ_run _ _ _).mono (fun _ h => ⟨fun c => (h.1 c).1, h.2⟩)
    (Cert.ReferenceIdeal.Clean.run m ρ)

end Cert.Clean

end
-- ==== Proof.lean ====
module

public import proofs.«01_k».proof.Defs
public import proofs.«01_k».proof.Proof.My.Agree

@[expose] public section

noncomputable section

namespace Cert.Proof

/-- The kernel and the reference run and leave their argument, and over the extended reals they give the same result. -/
theorem claim : Cert.Claim := ⟨Cert.Kernel.Gen.facts, Cert.KernelIdeal.Gen.facts, Cert.ReferenceIdeal.Gen.facts,
  Cert.Clean.below_facts, Cert.Clean.kernel_frame, Cert.Clean.ideal_frame, Cert.Clean.ideal_frame_below,
  Cert.Clean.reference_frame, Cert.Clean.reference_frame_below, trivial, Cert.Clean.agree⟩

end Cert.Proof

end
